-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_ok [hPre_scale_ok : Cert.Pre_scale_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scale_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_ok [hPre_scale_ok : Cert.Pre_scale_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scale_ok [hKernelIdeal : Cert.KernelIdeal.Facts] [hPre_scale_ok : Cert.Pre_scale_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scale_ok [hReferenceIdeal : Cert.ReferenceIdeal.Facts] [hPre_scale_ok : Cert.Pre_scale_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scale_ok [hKernelIdeal : Cert.KernelIdeal.Facts] [hReferenceIdeal : Cert.ReferenceIdeal.Facts] [hPre_scale_ok : Cert.Pre_scale_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scale_ok : Cert.Pre_scale_ok.Facts),
    quiescent_Kernel (hKernel := hKernel)
    ∧ quiescent_KernelIdeal (hKernelIdeal := hKernelIdeal)
    ∧ quiescent_KernelIdeal_pre_scale_ok (hKernelIdeal := hKernelIdeal) (hPre_scale_ok := hPre_scale_ok)
    ∧ quiescent_ReferenceIdeal (hReferenceIdeal := hReferenceIdeal)
    ∧ quiescent_ReferenceIdeal_pre_scale_ok (hReferenceIdeal := hReferenceIdeal) (hPre_scale_ok := hPre_scale_ok)
    ∧ preserves_Kernel_KernelIdeal
    ∧ algebraic_KernelIdeal_ReferenceIdeal_pre_scale_ok (hKernelIdeal := hKernelIdeal) (hReferenceIdeal := hReferenceIdeal) (hPre_scale_ok := hPre_scale_ok)
-- ==== Pre_scale_ok.lean ====
abbrev S48x197x16x64 : Shape := ⟨4, ![48, 197, 16, 64]⟩
abbrev S48x16x197x197 : Shape := ⟨4, ![48, 16, 197, 197]⟩
abbrev S48x16x197 : Shape := ⟨3, ![48, 16, 197]⟩
abbrev S48x16 : Shape := ⟨2, ![48, 16]⟩
abbrev S_ : Shape := ⟨0, ![]⟩

class Facts : Prop where
  bcast_S_S48x16 : S_.BroadcastsInDim S48x16 (![] : Fin 0 → Fin S48x16.rank)

variable [Facts]

def fn {F : FTy → Type} [FloatOps F] (main_arg0 : FVec F S48x197x16x64 .bf16) (main_arg1 : FVec F S48x197x16x64 .bf16) (main_arg2 : IVec S48x16x197x197 8) (main_arg3 : FVec F S48x16x197 .f32) (main_arg4 : FVec F S48x197x16x64 .fp8e4m3) (main_arg5 : FVec F S48x16 .f32) (main_arg6 : FVec F S48x197x16x64 .bf16) : IVec S48x16 1 :=
  let main_cst : FVec F S_ .f32 := constant S_ .f32 0x00000000#32
  let main_v0 : FVec F S48x16 .f32 := broadcastInDim S48x16 ![] bcast_S_S48x16 main_cst
  let main_v1 : IVec S48x16 1 := cmpf .oge main_arg5 main_v0
  let main_cst_0 : FVec F S_ .f32 := constant S_ .f32 0x7F800000#32
  let main_v2 : FVec F S48x16 .f32 := broadcastInDim S48x16 ![] bcast_S_S48x16 main_cst_0
  let main_v3 : IVec S48x16 1 := cmpf .olt main_arg5 main_v2
  let main_v4 : IVec S48x16 1 := andi main_v1 main_v3
  main_v4
-- ==== Kernel.lean ====
abbrev S48x197x16x64 : Shape := ⟨4, ![48, 197, 16, 64]⟩
abbrev S48x16x197x197 : Shape := ⟨4, ![48, 16, 197, 197]⟩
abbrev S48x16x197 : Shape := ⟨3, ![48, 16, 197]⟩
abbrev S48x16 : Shape := ⟨2, ![48, 16]⟩
abbrev S48x197x16x197 : Shape := ⟨4, ![48, 197, 16, 197]⟩
abbrev S48x16x64x197 : Shape := ⟨4, ![48, 16, 64, 197]⟩
abbrev S16x48 : Shape := ⟨2, ![16, 48]⟩
abbrev S1x16x64x256 : Shape := ⟨4, ![1, 16, 64, 256]⟩
abbrev S1x208x16x128 : Shape := ⟨4, ![1, 208, 16, 128]⟩
abbrev S1x16x256 : Shape := ⟨3, ![1, 16, 256]⟩
abbrev S4x2x208x128 : Shape := ⟨4, ![4, 2, 208, 128]⟩
abbrev S64x256 : Shape := ⟨2, ![64, 256]⟩
abbrev S208x16x128 : Shape := ⟨3, ![208, 16, 128]⟩
abbrev S3328x128 : Shape := ⟨2, ![3328, 128]⟩
abbrev S832x128 : Shape := ⟨2, ![832, 128]⟩
abbrev S208x4x128 : Shape := ⟨3, ![208, 4, 128]⟩
abbrev S128x1x128 : Shape := ⟨3, ![128, 1, 128]⟩
abbrev S128x128 : Shape := ⟨2, ![128, 128]⟩
abbrev S1x1x128x128 : Shape := ⟨4, ![1, 1, 128, 128]⟩
abbrev S80x1x128 : Shape := ⟨3, ![80, 1, 128]⟩
abbrev S80x128 : Shape := ⟨2, ![80, 128]⟩
abbrev S128x80 : Shape := ⟨2, ![128, 80]⟩
abbrev S1x1x128x80 : Shape := ⟨4, ![1, 1, 128, 80]⟩
abbrev S1x1x80x128 : Shape := ⟨4, ![1, 1, 80, 128]⟩
abbrev S80x80 : Shape := ⟨2, ![80, 80]⟩
abbrev S1x1x80x80 : Shape := ⟨4, ![1, 1, 80, 80]⟩
abbrev S1x1x64x256 : Shape := ⟨4, ![1, 1, 64, 256]⟩
abbrev S256x64 : Shape := ⟨2, ![256, 64]⟩
abbrev S208x64 : Shape := ⟨2, ![208, 64]⟩
abbrev S208x256 : Shape := ⟨2, ![208, 256]⟩
abbrev S1x1x208x128 : Shape := ⟨4, ![1, 1, 208, 128]⟩
abbrev S208x128 : Shape := ⟨2, ![208, 128]⟩
abbrev S1x256 : Shape := ⟨2, ![1, 256]⟩
abbrev S1x1x256 : Shape := ⟨3, ![1, 1, 256]⟩
abbrev S256 : Shape := ⟨1, ![256]⟩
abbrev S1x1 : Shape := ⟨2, ![1, 1]⟩
abbrev S64x208 : Shape := ⟨2, ![64, 208]⟩
abbrev S1x1x64x208 : Shape := ⟨4, ![1, 1, 64, 208]⟩

abbrev nBuf : Space → Nat
  | .hbm => 19
  | .vmem => 21
  | .smem => 1
  | _ => 0

abbrev bufTy : (tb : Table) → Fin (tcTables nBuf tb) → BufTy
  | .hbm, ⟨0, _⟩ => ⟨S48x197x16x64, .bf16⟩
  | .hbm, ⟨1, _⟩ => ⟨S48x197x16x64, .bf16⟩
  | .hbm, ⟨2, _⟩ => ⟨S48x16x197x197, .i8⟩
  | .hbm, ⟨3, _⟩ => ⟨S48x16x197, .f32⟩
  | .hbm, ⟨4, _⟩ => ⟨S48x197x16x64, .fp8e4m3⟩
  | .hbm, ⟨5, _⟩ => ⟨S48x16, .f32⟩
  | .hbm, ⟨6, _⟩ => ⟨S48x197x16x64, .bf16⟩
  | .hbm, ⟨7, _⟩ => ⟨S48x197x16x197, .i8⟩
  | .hbm, ⟨8, _⟩ => ⟨S48x16x64x197, .bf16⟩
  | .hbm, ⟨9, _⟩ => ⟨S48x16x64x197, .bf16⟩
  | .hbm, ⟨10, _⟩ => ⟨S48x16x64x197, .fp8e4m3⟩
  | .hbm, ⟨11, _⟩ => ⟨S48x16x64x197, .bf16⟩
  | .hbm, ⟨12, _⟩ => ⟨S16x48, .f32⟩
  | .hbm, ⟨13, _⟩ => ⟨S48x16x64x197, .bf16⟩
  | .hbm, ⟨14, _⟩ => ⟨S48x16x64x197, .bf16⟩
  | .hbm, ⟨15, _⟩ => ⟨S48x16x64x197, .bf16⟩
  | .hbm, ⟨16, _⟩ => ⟨S48x197x16x64, .bf16⟩
  | .hbm, ⟨17, _⟩ => ⟨S48x197x16x64, .bf16⟩
  | .hbm, ⟨18, _⟩ => ⟨S48x197x16x64, .bf16⟩
  | .local _ .vmem, ⟨0, _⟩ => ⟨S1x16x64x256, .bf16⟩
  | .local _ .vmem, ⟨1, _⟩ => ⟨S1x16x64x256, .bf16⟩
  | .local _ .vmem, ⟨2, _⟩ => ⟨S1x16x64x256, .bf16⟩
  | .local _ .vmem, ⟨3, _⟩ => ⟨S1x16x64x256, .bf16⟩
  | .local _ .vmem, ⟨4, _⟩ => ⟨S1x16x64x256, .fp8e4m3⟩
  | .local _ .vmem, ⟨5, _⟩ => ⟨S1x16x64x256, .fp8e4m3⟩
  | .local _ .vmem, ⟨6, _⟩ => ⟨S1x16x64x256, .bf16⟩
  | .local _ .vmem, ⟨7, _⟩ => ⟨S1x16x64x256, .bf16⟩
  | .local _ .vmem, ⟨8, _⟩ => ⟨S1x208x16x128, .i8⟩
  | .local _ .vmem, ⟨9, _⟩ => ⟨S1x208x16x128, .i8⟩
  | .local _ .vmem, ⟨10, _⟩ => ⟨S1x208x16x128, .i8⟩
  | .local _ .vmem, ⟨11, _⟩ => ⟨S1x208x16x128, .i8⟩
  | .local _ .vmem, ⟨12, _⟩ => ⟨S1x16x256, .f32⟩
  | .local _ .vmem, ⟨13, _⟩ => ⟨S1x16x256, .f32⟩
  | .local _ .vmem, ⟨14, _⟩ => ⟨S1x16x64x256, .bf16⟩
  | .local _ .vmem, ⟨15, _⟩ => ⟨S1x16x64x256, .bf16⟩
  | .local _ .vmem, ⟨16, _⟩ => ⟨S1x16x64x256, .bf16⟩
  | .local _ .vmem, ⟨17, _⟩ => ⟨S1x16x64x256, .bf16⟩
  | .local _ .vmem, ⟨18, _⟩ => ⟨S1x16x64x256, .bf16⟩
  | .local _ .vmem, ⟨19, _⟩ => ⟨S1x16x64x256, .bf16⟩
  | .local _ .vmem, ⟨20, _⟩ => ⟨S4x2x208x128, .i32⟩
  | .local _ .smem, ⟨0, _⟩ => ⟨S16x48, .f32⟩
  | _, _ => ⟨S48x197x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![48, 1], ![false, false]⟩

def k0_off1 (i : grid0.Coords) (c0_i32 : BitVec 32) : Fin 2 → Nat :=
  let arg1 : BitVec 32 := BitVec.ofNat 32 (i 1).val
  let c16_i32 : BitVec 32 := 16#32
  let v223 : BitVec 32 := Scalar.muli arg1 c16_i32
  let v224 : BitVec 32 := Scalar.addi v223 c0_i32
  let v225 : Index := Scalar.indexCast v224
  let arg0 : BitVec 32 := BitVec.ofNat 32 (i 0).val
  let v226 : Index := Scalar.indexCast arg0
  ![v225.toNat, v226.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, arg1.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x64x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x208x16x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x208x16x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S16x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x64x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S48x197x16x64 : Shape := ⟨4, ![48, 197, 16, 64]⟩
abbrev S48x16x197x197 : Shape := ⟨4, ![48, 16, 197, 197]⟩
abbrev S48x16x197 : Shape := ⟨3, ![48, 16, 197]⟩
abbrev S48x16 : Shape := ⟨2, ![48, 16]⟩
abbrev S48x16x197x1 : Shape := ⟨4, ![48, 16, 197, 1]⟩
abbrev S48x16x64x197 : Shape := ⟨4, ![48, 16, 64, 197]⟩
abbrev S48x16x1x1 : Shape := ⟨4, ![48, 16, 1, 1]⟩
abbrev S_ : Shape := ⟨0, ![]⟩

abbrev nBuf : Space → Nat
  | .hbm => 44
  | .vmem => 5
  | .smem => 0
  | _ => 0

abbrev bufTy : (tb : Table) → Fin (tcTables nBuf tb) → BufTy
  | .hbm, ⟨0, _⟩ => ⟨S48x197x16x64, .bf16⟩
  | .hbm, ⟨1, _⟩ => ⟨S48x197x16x64, .bf16⟩
  | .hbm, ⟨2, _⟩ => ⟨S48x16x197x197, .i8⟩
  | .hbm, ⟨3, _⟩ => ⟨S48x16x197, .f32⟩
  | .hbm, ⟨4, _⟩ => ⟨S48x197x16x64, .fp8e4m3⟩
  | .hbm, ⟨5, _⟩ => ⟨S48x16, .f32⟩
  | .hbm, ⟨6, _⟩ => ⟨S48x197x16x64, .bf16⟩
  | .hbm, ⟨7, _⟩ => ⟨S48x16x197x197, .f32⟩
  | .hbm, ⟨8, _⟩ => ⟨S48x16x197x197, .bf16⟩
  | .hbm, ⟨9, _⟩ => ⟨S48x197x16x64, .bf16⟩
  | .hbm, ⟨10, _⟩ => ⟨S48x16x197x1, .f32⟩
  | .hbm, ⟨11, _⟩ => ⟨S48x16x197x197, .f32⟩
  | .hbm, ⟨12, _⟩ => ⟨S48x16x197x197, .f32⟩
  | .hbm, ⟨13, _⟩ => ⟨S48x16x197, .bf16⟩
  | .hbm, ⟨14, _⟩ => ⟨S48x16x197x1, .bf16⟩
  | .hbm, ⟨15, _⟩ => ⟨S48x16x197x197, .bf16⟩
  | .hbm, ⟨16, _⟩ => ⟨S48x16x197x197, .bf16⟩
  | .hbm, ⟨17, _⟩ => ⟨S48x16x64x197, .f32⟩
  | .hbm, ⟨18, _⟩ => ⟨S48x197x16x64, .f32⟩
  | .hbm, ⟨19, _⟩ => ⟨S48x16x197x197, .f32⟩
  | .hbm, ⟨20, _⟩ => ⟨S48x16x1x1, .f32⟩
  | .hbm, ⟨21, _⟩ => ⟨S48x16x197x197, .f32⟩
  | .hbm, ⟨22, _⟩ => ⟨S48x16x197x197, .f32⟩
  | .hbm, ⟨23, _⟩ => ⟨S48x16x197x197, .f32⟩
  | .hbm, ⟨24, _⟩ => ⟨S_, .f32⟩
  | .hbm, ⟨25, _⟩ => ⟨S48x16x197, .f32⟩
  | .hbm, ⟨26, _⟩ => ⟨S48x16x197x1, .f32⟩
  | .hbm, ⟨27, _⟩ => ⟨S48x16x197x197, .f32⟩
  | .hbm, ⟨28, _⟩ => ⟨S48x16x197x197, .f32⟩
  | .hbm, ⟨29, _⟩ => ⟨S48x16x197x197, .f32⟩
  | .hbm, ⟨30, _⟩ => ⟨S48x16x197x197, .bf16⟩
  | .hbm, ⟨31, _⟩ => ⟨S48x16x64x197, .f32⟩
  | .hbm, ⟨32, _⟩ => ⟨S48x197x16x64, .f32⟩
  | .hbm, ⟨33, _⟩ => ⟨S_, .f32⟩
  | .hbm, ⟨34, _⟩ => ⟨S48x197x16x64, .f32⟩
  | .hbm, ⟨35, _⟩ => ⟨S48x197x16x64, .f32⟩
  | .hbm, ⟨36, _⟩ => ⟨S48x16x64x197, .f32⟩
  | .hbm, ⟨37, _⟩ => ⟨S48x197x16x64, .f32⟩
  | .hbm, ⟨38, _⟩ => ⟨S_, .f32⟩
  | .hbm, ⟨39, _⟩ => ⟨S48x197x16x64, .f32⟩
  | .hbm, ⟨40, _⟩ => ⟨S48x197x16x64, .f32⟩
  | .hbm, ⟨41, _⟩ => ⟨S48x197x16x64, .bf16⟩
  | .hbm, ⟨42, _⟩ => ⟨S48x197x16x64, .bf16⟩
  | .hbm, ⟨43, _⟩ => ⟨S48x197x16x64, .bf16⟩
  | .local _ .vmem, ⟨0, _⟩ => ⟨S48x16x197x197, .i8⟩
  | .local _ .vmem, ⟨1, _⟩ => ⟨S48x197x16x64, .fp8e4m3⟩
  | .local _ .vmem, ⟨2, _⟩ => ⟨S48x16x197x197, .f32⟩
  | .local _ .vmem, ⟨3, _⟩ => ⟨S48x16x197x197, .bf16⟩
  | .local _ .vmem, ⟨4, _⟩ => ⟨S48x197x16x64, .bf16⟩
  | _, _ => ⟨S48x197x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S48x16x197x197 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x197x16x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x16x197x197 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x16x197x197 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x197x16x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelRun.lean ====
module
public import proofs.«01_k».proof.Proof.Gen.Kernel.Launch
public import proofs.«01_k».proof.Proof.Gen.Kernel.Points
public import proofs.«01_k».proof.Proof.Gen.Kernel.Skeleton
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Kernel.Run
open Cert.Kernel Cert.Kernel.Gen
variable {F : FTy → Type} [FloatOps F]
local notation "𝕄" => MT nD τ sig Unit (Elt F) ℕ (UR sig nD τ) ℕ

set_option maxRecDepth 100000
set_option maxHeartbeats 40000000 in
theorem sound_kernel (c : Dev nD) (E : Set ℕ) (i : grid0.Coords)
    (arg2 : Memref sig .tc .vmem S1x16x64x256 .bf16) (harg2 : arg2.IsWhole)
    (arg3 : Memref sig .tc .vmem S1x16x64x256 .bf16) (harg3 : arg3.IsWhole)
    (arg4 : Memref sig .tc .vmem S1x16x64x256 .fp8e4m3) (harg4 : arg4.IsWhole)
    (arg5 : Memref sig .tc .vmem S1x16x64x256 .bf16) (harg5 : arg5.IsWhole)
    (arg6 : Memref sig .tc .vmem S1x208x16x128 .i8) (harg6 : arg6.IsWhole)
    (arg7 : Memref sig .tc .vmem S1x208x16x128 .i8) (harg7 : arg7.IsWhole)
    (arg8 : Memref sig .tc .vmem S1x16x256 .f32) (harg8 : arg8.IsWhole)
    (arg9 : Memref sig .tc .smem S16x48 .f32) (harg9 : arg9.IsWhole)
    (arg10 : Memref sig .tc .vmem S1x16x64x256 .bf16) (harg10 : arg10.IsWhole)
    (arg11 : Memref sig .tc .vmem S1x16x64x256 .bf16) (harg11 : arg11.IsWhole)
    (arg12 : Memref sig .tc .vmem S1x16x64x256 .bf16) (harg12 : arg12.IsWhole)
    (arg13 : Memref sig .tc .vmem S4x2x208x128 .i32) (harg13 : arg13.IsWhole)
    (x0 : Vec F S1x16x64x256 .bf16) (x1 : Vec F S1x16x64x256 .bf16) (x2 : Vec F S1x16x64x256 .fp8e4m3) (x3 : Vec F S1x16x64x256 .bf16) (x4 : Vec F S1x208x16x128 .i8) (x5 : Vec F S1x208x16x128 .i8) (x6 : Vec F S1x16x256 .f32) (x7 : Vec F S16x48 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)) -∗ K ⟨⟩))
      ⊢ wp frame (wpE (defs₀ (F := F)) Variants.none c none) E (cc0_mhsa_bwd i arg2 harg2 arg3 harg3 arg4 harg4 arg5 harg5 arg6 harg6 arg7 harg7 arg8 harg8 arg9 harg9 arg10 harg10 arg11 harg11 arg12 harg12 arg13 harg13) K := by
  simp only [cc0_mhsa_bwd_eq_skeleton]; unfold cc0_mhsa_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

variable (m : (ℓ : Loc nD τ sig) → Buf (Elt F) ℓ) (ρ : Dev nD → PrngReg)

/-- An input window's whole staging block at point `t`: its part inside the array as fetched, anything elsewhere. -/
def fblk (c : Dev nD) (w : Fin cfg0.W) (t : Fin cfg0.N) : (cfg0.win w).block.Idx → Elt F (cfg0.win w).elt :=
  (cfg0.win w).fill (cfg0.grid.coords t) (fun _ => Classical.arbitrary _) (iblk m c w t)

/-- The pipeline's proof data on core `c`: every array as the region finds it, every input's staging buffer left as
    fetched, nothing said of the outputs'. The array of the probabilities' codes is read by two windows, each at half
    of the share. -/
def dats (_ : Fin 1) (c : Dev nD) : Dat τ (Elt F) Unit ℕ (UR sig nD τ) ℕ cfg0 c where
  A w := V m c (Pipeline.arrRef spec0 w)
  after w t := match w with
    | ⟨0, _⟩ => fblk m c 0 t
    | ⟨1, _⟩ => fblk m c 1 t
    | ⟨2, _⟩ => fblk m c 2 t
    | ⟨3, _⟩ => fblk m c 3 t
    | ⟨4, _⟩ => fblk m c 4 t
    | ⟨5, _⟩ => fblk m c 5 t
    | ⟨6, _⟩ => fblk m c 6 t
    | ⟨7, _⟩ => iblk m c 7 t
    | ⟨8, _⟩ => Dat.unnamed 8 t
    | ⟨9, _⟩ => Dat.unnamed 9 t
    | ⟨10, _⟩ => Dat.unnamed 10 t
  Φ _ := Pipeline.ΦA spec0 c
  q w := Pipeline.shareOf spec0 w
  owed _ := 0

/-- The outputs' windows: nothing is said of what they hold. -/
abbrev fgt : Fin cfg0.W → Bool := fun
  | 0 => false | 1 => false | 2 => false | 3 => false | 4 => false | 5 => false | 6 => false | 7 => false
  | 8 => true | 9 => true | 10 => true | ⟨_ + 11, h⟩ => absurd h (Nat.not_lt.2 (Nat.le_add_left _ _))

theorem A_eq (c : Dev nD) (w : Fin cfg0.W) : (dats m 0 c).A w = V m c (Pipeline.arrRef spec0 w) := by
  dsimp only [dats]

theorem before0_0 (c : Dev nD) (t : Fin cfg0.N) (d) :
    (dats m 0 c).before 0 t d = (cfg0.win 0).fill (cfg0.grid.coords t) d (iblk m c 0 t) := by
  unfold Dat.before; rw [if_pos (fetch0_0 t)]; rfl
theorem after0_0 (c : Dev nD) (t : Fin cfg0.N) : (dats m 0 c).after 0 t = fblk m c 0 t := by dsimp only [dats]
theorem before0_1 (c : Dev nD) (t : Fin cfg0.N) (d) :
    (dats m 0 c).before 1 t d = (cfg0.win 1).fill (cfg0.grid.coords t) d (iblk m c 1 t) := by
  unfold Dat.before; rw [if_pos (fetch0_1 t)]; rfl
theorem after0_1 (c : Dev nD) (t : Fin cfg0.N) : (dats m 0 c).after 1 t = fblk m c 1 t := by dsimp only [dats]
theorem before0_2 (c : Dev nD) (t : Fin cfg0.N) (d) :
    (dats m 0 c).before 2 t d = (cfg0.win 2).fill (cfg0.grid.coords t) d (iblk m c 2 t) := by
  unfold Dat.before; rw [if_pos (fetch0_2 t)]; rfl
theorem after0_2 (c : Dev nD) (t : Fin cfg0.N) : (dats m 0 c).after 2 t = fblk m c 2 t := by dsimp only [dats]
theorem before0_3 (c : Dev nD) (t : Fin cfg0.N) (d) :
    (dats m 0 c).before 3 t d = (cfg0.win 3).fill (cfg0.grid.coords t) d (iblk m c 3 t) := by
  unfold Dat.before; rw [if_pos (fetch0_3 t)]; rfl
theorem after0_3 (c : Dev nD) (t : Fin cfg0.N) : (dats m 0 c).after 3 t = fblk m c 3 t := by dsimp only [dats]
theorem before0_4 (c : Dev nD) (t : Fin cfg0.N) (d) :
    (dats m 0 c).before 4 t d = (cfg0.win 4).fill (cfg0.grid.coords t) d (iblk m c 4 t) := by
  unfold Dat.before; rw [if_pos (fetch0_4 t)]; rfl
theorem after0_4 (c : Dev nD) (t : Fin cfg0.N) : (dats m 0 c).after 4 t = fblk m c 4 t := by dsimp only [dats]
theorem before0_5 (c : Dev nD) (t : Fin cfg0.N) (d) :
    (dats m 0 c).before 5 t d = (cfg0.win 5).fill (cfg0.grid.coords t) d (iblk m c 5 t) := by
  unfold Dat.before; rw [if_pos (fetch0_5 t)]; rfl
theorem after0_5 (c : Dev nD) (t : Fin cfg0.N) : (dats m 0 c).after 5 t = fblk m c 5 t := by dsimp only [dats]
theorem before0_6 (c : Dev nD) (t : Fin cfg0.N) (d) :
    (dats m 0 c).before 6 t d = (cfg0.win 6).fill (cfg0.grid.coords t) d (iblk m c 6 t) := by
  unfold Dat.before; rw [if_pos (fetch0_6 t)]; rfl
theorem after0_6 (c : Dev nD) (t : Fin cfg0.N) : (dats m 0 c).after 6 t = fblk m c 6 t := by dsimp only [dats]
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) :
    Pipeline.BodyObligationLoose (dats (F := F) m 0 c) (defs₀ (F := F)) Variants.none () Set.univ fgt := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨%f11, H11⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0_0 m c t d0, before0_1 m c t d1, before0_2 m c t d2, before0_3 m c t d3, before0_4 m c t d4, before0_5 m c t d5, before0_6 m c t d6, before0_7 m c t d7]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (Memref.whole cc0_scratch0) (Memref.isWhole_whole _)
    ((cfg0.win 0).fill (cfg0.grid.coords t) d0 (iblk m c 0 t)) ((cfg0.win 1).fill (cfg0.grid.coords t) d1 (iblk m c 1 t)) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexists d9; iexact H9
  isplitl [H10]; · iexists d10; iexact H10
  isplitl [H11]; · iexists f11; rw [owns_whole]; iexact H11
  iintro ⟨H0, H1, H2, H3, H4, H5, H6, H7, ⟨%e8, H8⟩, ⟨%e9, H9⟩, ⟨%e10, H10⟩, ⟨%e11, H11⟩⟩
  isplitl [H11 Hp]
  · isplitl [H11]
    · iexists e11; rw [owns_whole]; exact .rfl
    · iexact Hp
  isplitl [Ho]; · iexact Ho
  isplitl [H0]
  · iexists d0; rw [after0_0]; unfold fblk; rw [Window.cut_fill]; iexact H0
  isplitl [H1]
  · iexists d1; rw [after0_1]; unfold fblk; rw [Window.cut_fill]; iexact H1
  isplitl [H2]
  · iexists d2; rw [after0_2]; unfold fblk; rw [Window.cut_fill]; iexact H2
  isplitl [H3]
  · iexists d3; rw [after0_3]; unfold fblk; rw [Window.cut_fill]; iexact H3
  isplitl [H4]
  · iexists d4; rw [after0_4]; unfold fblk; rw [Window.cut_fill]; iexact H4
  isplitl [H5]
  · iexists d5; rw [after0_5]; unfold fblk; rw [Window.cut_fill]; iexact H5
  isplitl [H6]
  · iexists d6; rw [after0_6]; unfold fblk; rw [Window.cut_fill]; iexact H6
  isplitl [H7]
  · rw [after0_7]; iexact H7
  isplitl [H8]; · iexists e8; iexact H8
  isplitl [H9]; · iexists e9; iexact H9
  iexists e10; iexact H10

/-- The buffers the host operations after the region write. -/
abbrev T : Finset (Ref sig .tc) := {main_v7, main_v8, main_v9}

theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.unary_writes, Finset.mem_singleton] at hb
    obtain rfl := Proc.devRef_injective _ hb
    decide

set_option backward.isDefEq.respectTransparency.types false in
set_option maxHeartbeats 800000 in
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  Pipeline.θ_run_frame_around_T_forget_shared cfgs (dats m) (0 : Fin 1) launch₀0 defs₀ Variants.none fgt T m ρ main
    (hbody := body_obligation m) (hq := fun _ _ _ => rfl) (howed := fun _ _ => rfl) (V₀ := V0 m) (opss := [hostOps1])
    (hsub := sfx_sub) (hfresh := sfx_fresh) (hkeep := sfx_keeps) (hT := sfx_T)
    (hmain := hmain m Variants.none) (hA := A_eq m) (hΦ := fun _ _ => rfl)
    (Q' := _) (hQ' := fun r h => ⟨fun c => ⟨
      ((h.1 c).2 main_arg0 (by decide)).trans (V_main_arg0 m c),
      ((h.1 c).2 main_arg1 (by decide)).trans (V_main_arg1 m c),
      ((h.1 c).2 main_arg2 (by decide)).trans (V_main_arg2 m c),
      (h.1.arr_in c 6 rfl).trans (V_main_arg3 m c),
      ((h.1 c).2 main_arg4 (by decide)).trans (V_main_arg4 m c),
      ((h.1 c).2 main_arg5 (by decide)).trans (V_main_arg5 m c),
      ((h.1 c).2 main_arg6 (by decide)).trans (V_main_arg6 m c)⟩, h.2⟩)

end Cert.Kernel.Run
-- ==== Proof.Head.lean ====
module
public import proofs.«01_k».proof.Proof.Gen.KernelIdeal.Launch
public import proofs.«01_k».proof.Proof.Gen.KernelIdeal.Skeleton
public import Idealize.ShloMosaic.Lib.Pointwise
public import Idealize.ShloMosaic.Lib.FinSumWindow
@[expose] public section
noncomputable section
open Idealize.ShloMosaic Idealize.ShloMosaic.TcCoe Idealize.ShloMosaic.Tactic
namespace Cert.KernelIdeal.Head
open Cert.KernelIdeal Cert.KernelIdeal.Gen
set_option maxRecDepth 16384

/-! The values one head of the kernel computes, as the vector operations of its body and as
formulas in the extended reals. -/

/-- The lane number of every entry of a 64 by 256 tile. -/
def lane : IVec S64x256 32 := iota .tc S64x256 32 [1] iota_S64x256_d1_w32

/-- A tile of tokens with the lanes past the sequence set to zero. -/
def tok (a : Vec Ideal S1x1x64x256 .bf16) : FVec Ideal S64x256 .bf16 :=
  select (cmpi .slt lane (broadcast S64x256 197#32))
    (shapeCast S64x256 a shapeCasts_S1x1x64x256_S64x256)
    (broadcast S64x256 (Scalar.ofBits (F := Ideal) .bf16 0x0000#16))

/-- The same for the tile of values in their eight bit format. -/
def tok8 (a : Vec Ideal S1x1x64x256 .fp8e4m3) : FVec Ideal S64x256 .bf16 :=
  select (cmpi .slt lane (broadcast S64x256 197#32))
    (extf .bf16 (shapeCast S64x256 a shapeCasts_S1x1x64x256_S64x256 : FVec Ideal S64x256 .fp8e4m3)
      bitsLt_fp8e4m3_bf16)
    (broadcast S64x256 (Scalar.ofBits (F := Ideal) .bf16 0x0000#16))

/-- The gradient of the probabilities, keys by queries. -/
def dp (v : Vec Ideal S1x1x64x256 .fp8e4m3) (g : Vec Ideal S1x1x64x256 .bf16) :
    FVec Ideal S208x256 .f32 :=
  matmul dot_S208x64_S64x256_S208x256_1_0_0_1_n_n none
    (extractStridedSlice S208x64 ![0, 0]
      (transpose S256x64 [1, 0] (tok8 v) transposes_S64x256_p1_0_S256x64)
      slices_S256x64_o0_0_S208x64)
    (tok g) (constant S208x256 .f32 0x00000000#32)

/-- The codes of one head, taken out of the words that hold four heads. -/
def codes (w0 w1 : Vec Ideal S1x1x208x128 .i32) (s : BitVec 32) : FVec Ideal S208x256 .f32 :=
  sitofp .f32 (shrsi (shli (concatenate S208x256 1
      [⟨S208x128, shapeCast S208x128 w0 shapeCasts_S1x1x208x128_S208x128⟩,
       ⟨S208x128, shapeCast S208x128 w1 shapeCasts_S1x1x208x128_S208x128⟩]
      concatenates_S208x128_S208x128_S208x256_d1)
    (broadcast S208x256 s)) (broadcast S208x256 24#32))

/-- The scales of the rows, zero past the sequence. -/
def scl (p : Vec Ideal S1x1x256 .f32) : FVec Ideal S1x256 .f32 :=
  select (cmpi .slt (extractStridedSlice S1x256 ![0, 0] lane slices_S64x256_o0_0_S1x256)
      (broadcast S1x256 197#32))
    (shapeCast S1x256 p shapeCasts_S1x1x256_S1x256)
    (broadcast S1x256 (Scalar.ofBits (F := Ideal) .f32 0x00000000#32))

/-- The probabilities in single precision. -/
def phat (c : FVec Ideal S208x256 .f32) (p : Vec Ideal S1x1x256 .f32) : FVec Ideal S208x256 .f32 :=
  mulf c (broadcastTo S208x256 (scl p) broadcasts_S1x256_S208x256)

/-- The probabilities in the half format. -/
def phatb (c : FVec Ideal S208x256 .f32) (p : Vec Ideal S1x1x256 .f32) :
    FVec Ideal S208x256 .bf16 :=
  mulf (truncf .bf16 c bitsLt_bf16_f32)
    (broadcastTo S208x256 (truncf .bf16 (scl p) bitsLt_bf16_f32) broadcasts_S1x256_S208x256)

/-- The row sums of gradient times probability. -/
def rsum (d : FVec Ideal S208x256 .f32) (ph : FVec Ideal S208x256 .f32) : FVec Ideal S1x256 .f32 :=
  shapeCast S1x256 (multiReduction .add [0] S256 (mulf d ph) 0x00000000#32
      reduces_S208x256_S256 (.inl rfl) rfl) shapeCasts_S256_S1x256

/-- The gradient of the scores. -/
def ds (d : FVec Ideal S208x256 .f32) (ph : FVec Ideal S208x256 .f32) : FVec Ideal S208x256 .bf16 :=
  truncf .bf16 (mulf ph (subf d (broadcastTo S208x256 (rsum d ph) broadcasts_S1x256_S208x256)))
    bitsLt_bf16_f32

/-- The gradient of the values. -/
def dv (g : Vec Ideal S1x1x64x256 .bf16) (p : FVec Ideal S208x256 .bf16) :
    FVec Ideal S1x1x64x208 .bf16 :=
  shapeCast S1x1x64x208 (truncf .bf16 (matmul dot_S64x256_S208x256_S64x208_1_1_0_0_n_n none
    (tok g) p (constant S64x208 .f32 0x00000000#32)) bitsLt_bf16_f32)
    shapeCasts_S64x208_S1x1x64x208

/-- The gradient of the keys. -/
def dk (q : Vec Ideal S1x1x64x256 .bf16) (e : FVec Ideal S208x256 .bf16) (s : Elt Ideal .f32) :
    FVec Ideal S1x1x64x208 .bf16 :=
  shapeCast S1x1x64x208 (truncf .bf16 (mulf (matmul dot_S64x256_S208x256_S64x208_1_1_0_0_n_n none
    (tok q) e (constant S64x208 .f32 0x00000000#32))
    (broadcast S64x208 (Scalar.mulf s (Scalar.ofBits (F := Ideal) .f32 0x3E000000#32) : Ideal .f32))) bitsLt_bf16_f32)
    shapeCasts_S64x208_S1x1x64x208

/-- The gradient of the queries. -/
def dq (k : Vec Ideal S1x1x64x256 .bf16) (e : FVec Ideal S208x256 .bf16) (s : Elt Ideal .f32) :
    FVec Ideal S1x1x64x256 .bf16 :=
  shapeCast S1x1x64x256 (truncf .bf16 (mulf (matmul dot_S64x208_S208x256_S64x256_1_0_0_1_n_n none
    (extractStridedSlice S64x208 ![0, 0] (tok k) slices_S64x256_o0_0_S64x208)
    e (constant S64x256 .f32 0x00000000#32))
    (broadcast S64x256 (Scalar.mulf s (Scalar.ofBits (F := Ideal) .f32 0x3E000000#32) : Ideal .f32))) bitsLt_bf16_f32)
    shapeCasts_S64x256_S1x1x64x256

theorem lt_mask (l : Fin 256) : IntOp.cmpi .slt (BitVec.ofNat 32 l.val) 197#32 =
    if l.val < 197 then 1#1 else 0#1 := by
  revert l; decide

theorem select_mask (l : Fin 256) (x y : EReal) :
    Scalar.select (IntOp.cmpi .slt (BitVec.ofNat 32 l.val) 197#32) x y =
      if l.val < 197 then x else y := by
  rw [lt_mask]; split <;> rfl

theorem tok_apply (a : Vec Ideal S1x1x64x256 .bf16) (d : Fin 64) (l : Fin 256) :
    tok a (ix2 d l) = if l.val < 197 then a (ix4 0 0 d l) else (0 : EReal) := by
  pointwise [tok, lane]
  exact select_mask _ _ _

theorem tok8_apply (a : Vec Ideal S1x1x64x256 .fp8e4m3) (d : Fin 64) (l : Fin 256) :
    tok8 a (ix2 d l) = if l.val < 197 then a (ix4 0 0 d l) else (0 : EReal) := by
  pointwise [tok8, lane]
  exact select_mask _ _ _

theorem scl_apply (a : Vec Ideal S1x1x256 .f32) (l : Fin 256) :
    scl a (ix2 0 l) = if l.val < 197 then a (ix3 0 0 l) else (0 : EReal) := by
  pointwise [scl, lane]
  exact select_mask _ _ _

theorem dp_apply (v : Vec Ideal S1x1x64x256 .fp8e4m3) (g : Vec Ideal S1x1x64x256 .bf16)
    (j : Fin 208) (i : Fin 256) :
    dp v g (ix2 j i) = ∑ d : Fin 64, (tok8 v (ix2 d ⟨j.val, by omega⟩) * tok g (ix2 d i) : EReal) := by
  pointwise [dp]

/-- The word that holds the code of key `j` and query `i`. -/
def word (w0 w1 : Vec Ideal S1x1x208x128 .i32) (j : Fin 208) (i : Fin 256) : BitVec 32 :=
  if h : i.val < 128 then w0 (ix4 0 0 j ⟨i.val, h⟩) else w1 (ix4 0 0 j ⟨i.val - 128, by omega⟩)

theorem codes_apply (w0 w1 : Vec Ideal S1x1x208x128 .i32) (s : BitVec 32) (j : Fin 208) (i : Fin 256) :
    codes w0 w1 s (ix2 j i) = FloatOps.sitofp (F := Ideal) .f32
      (IntOp.shrsi .vector (IntOp.shli .vector (word w0 w1 j i) s) 24#32) := by
  pointwise [codes]
  rfl

theorem phat_apply (c : FVec Ideal S208x256 .f32) (p : Vec Ideal S1x1x256 .f32) (j : Fin 208) (i : Fin 256) :
    phat c p (ix2 j i) = (c (ix2 j i) * scl p (ix2 0 i) : EReal) := by
  pointwise [phat]

theorem phatb_apply (c : FVec Ideal S208x256 .f32) (p : Vec Ideal S1x1x256 .f32) (j : Fin 208) (i : Fin 256) :
    phatb c p (ix2 j i) = (c (ix2 j i) * scl p (ix2 0 i) : EReal) := by
  pointwise [phatb]

theorem rsum_apply (d ph : FVec Ideal S208x256 .f32) (i : Fin 256) :
    rsum d ph (ix2 0 i) = ∑ j : Fin 208, (d (ix2 j i) * ph (ix2 j i) : EReal) := by
  pointwise [rsum]

theorem ds_apply (d ph : FVec Ideal S208x256 .f32) (j : Fin 208) (i : Fin 256) :
    ds d ph (ix2 j i) = (ph (ix2 j i) * (d (ix2 j i) - rsum d ph (ix2 0 i)) : EReal) := by
  pointwise [ds]

theorem dv_apply (g : Vec Ideal S1x1x64x256 .bf16) (p : FVec Ideal S208x256 .bf16)
    (d : Fin 64) (j : Fin 208) :
    dv g p (ix4 0 0 d j) = ∑ i : Fin 256, (tok g (ix2 d i) * p (ix2 j i) : EReal) := by
  pointwise [dv]

theorem dk_apply (q : Vec Ideal S1x1x64x256 .bf16) (e : FVec Ideal S208x256 .bf16) (s : Elt Ideal .f32)
    (d : Fin 64) (j : Fin 208) :
    dk q e s (ix4 0 0 d j) = ((∑ i : Fin 256, (tok q (ix2 d i) * e (ix2 j i) : EReal)) *
      (s * Ideal.ofBits .f32 0x3E000000#32) : EReal) := by
  pointwise [dk]

theorem dq_apply (k : Vec Ideal S1x1x64x256 .bf16) (e : FVec Ideal S208x256 .bf16) (s : Elt Ideal .f32)
    (d : Fin 64) (i : Fin 256) :
    dq k e s (ix4 0 0 d i) = ((∑ j : Fin 208, (tok k (ix2 d ⟨j.val, by omega⟩) * e (ix2 j i) : EReal)) *
      (s * Ideal.ofBits .f32 0x3E000000#32) : EReal) := by
  pointwise [dq]

/-! ### One head as formulas over the sequence -/

theorem sum_cut {N : ℕ} (hN : 197 ≤ N) (f : Fin N → EReal) (h : ∀ i : Fin N, 197 ≤ i.val → f i = 0) :
    ∑ i, f i = ∑ i : Fin 197, f ⟨i.val, by omega⟩ := by
  have := FinSumWindow.sum_window (N := N) (W := 197) 0 (by omega) f (fun i hi => h i (by omega))
  rw [this]
  refine Finset.sum_congr rfl fun i _ => ?_
  congr 1
  exact Fin.ext (by simp)

/-- The data of one head over the sequence. -/
structure Data where
  q : Fin 64 → Fin 197 → EReal
  k : Fin 64 → Fin 197 → EReal
  v : Fin 64 → Fin 197 → EReal
  g : Fin 64 → Fin 197 → EReal
  c : Fin 197 → Fin 197 → EReal
  p : Fin 197 → EReal
  s : EReal

namespace Data
variable (D : Data)

/-- The gradient of the probability of key `j` for query `i`. -/
def dp (j i : Fin 197) : EReal := ∑ d, D.v d j * D.g d i
/-- The probability. -/
def ph (j i : Fin 197) : EReal := D.c j i * D.p i
/-- The gradient of the score. -/
def ds (j i : Fin 197) : EReal := D.ph j i * (D.dp j i - ∑ j', D.dp j' i * D.ph j' i)
def dv (d : Fin 64) (j : Fin 197) : EReal := ∑ i, D.g d i * D.ph j i
def dk (d : Fin 64) (j : Fin 197) : EReal :=
  (∑ i, D.q d i * D.ds j i) * (D.s * Ideal.ofBits .f32 0x3E000000#32)
def dq (d : Fin 64) (i : Fin 197) : EReal :=
  (∑ j, D.k d j * D.ds j i) * (D.s * Ideal.ofBits .f32 0x3E000000#32)

end Data

section
variable {D : Data} {q k g : Vec Ideal S1x1x64x256 .bf16} {v : Vec Ideal S1x1x64x256 .fp8e4m3}
  {w0 w1 : Vec Ideal S1x1x208x128 .i32} {s : BitVec 32} {p : Vec Ideal S1x1x256 .f32}

theorem tok_of {a : Vec Ideal S1x1x64x256 .bf16} {f : Fin 64 → Fin 197 → EReal}
    (h : ∀ d (l : Fin 197), a (ix4 0 0 d ⟨l.val, by omega⟩) = f d l) (d : Fin 64) (l : Fin 197) :
    tok a (ix2 d ⟨l.val, by omega⟩) = f d l := by
  rw [tok_apply, if_pos l.isLt, h]

theorem tok_zero {a : Vec Ideal S1x1x64x256 .bf16} (d : Fin 64) (l : Fin 256) (hl : 197 ≤ l.val) :
    tok a (ix2 d l) = (0 : EReal) := by
  rw [tok_apply, if_neg (by omega)]

theorem dp_of (hv : ∀ d (l : Fin 197), v (ix4 0 0 d ⟨l.val, by omega⟩) = D.v d l)
    (hg : ∀ d (l : Fin 197), g (ix4 0 0 d ⟨l.val, by omega⟩) = D.g d l) (j i : Fin 197) :
    dp v g (ix2 ⟨j.val, by omega⟩ ⟨i.val, by omega⟩) = D.dp j i := by
  rw [dp_apply]
  refine Finset.sum_congr rfl fun d _ => ?_
  rw [tok_of hg, tok8_apply, if_pos j.isLt, hv]

theorem dp_zero (j : Fin 208) (i : Fin 256) (hj : 197 ≤ j.val) : dp v g (ix2 j i) = (0 : EReal) := by
  rw [dp_apply]
  refine Finset.sum_eq_zero fun d _ => ?_
  rw [tok8_apply, if_neg (by simpa using hj), zero_mul]

theorem phat_of
    (hc : ∀ j i : Fin 197, codes w0 w1 s (ix2 ⟨j.val, by omega⟩ ⟨i.val, by omega⟩) = D.c j i)
    (hp : ∀ i : Fin 197, p (ix3 0 0 ⟨i.val, by omega⟩) = D.p i) (j i : Fin 197) :
    phat (codes w0 w1 s) p (ix2 ⟨j.val, by omega⟩ ⟨i.val, by omega⟩) = D.ph j i := by
  rw [phat_apply, scl_apply, if_pos i.isLt, hc, hp]; rfl

theorem phatb_of
    (hc : ∀ j i : Fin 197, codes w0 w1 s (ix2 ⟨j.val, by omega⟩ ⟨i.val, by omega⟩) = D.c j i)
    (hp : ∀ i : Fin 197, p (ix3 0 0 ⟨i.val, by omega⟩) = D.p i) (j i : Fin 197) :
    phatb (codes w0 w1 s) p (ix2 ⟨j.val, by omega⟩ ⟨i.val, by omega⟩) = D.ph j i := by
  rw [phatb_apply, scl_apply, if_pos i.isLt, hc, hp]; rfl

theorem dv_of (hg : ∀ d (l : Fin 197), g (ix4 0 0 d ⟨l.val, by omega⟩) = D.g d l)
    (hc : ∀ j i : Fin 197, codes w0 w1 s (ix2 ⟨j.val, by omega⟩ ⟨i.val, by omega⟩) = D.c j i)
    (hp : ∀ i : Fin 197, p (ix3 0 0 ⟨i.val, by omega⟩) = D.p i) (d : Fin 64) (j : Fin 197) :
    dv g (phatb (codes w0 w1 s) p) (ix4 0 0 d ⟨j.val, by omega⟩) = D.dv d j := by
  rw [dv_apply, sum_cut (by omega) _ (fun i hi => by rw [tok_zero _ _ hi, zero_mul])]
  exact Finset.sum_congr rfl fun i _ => by rw [tok_of hg, phatb_of hc hp]

theorem ds_of (hv : ∀ d (l : Fin 197), v (ix4 0 0 d ⟨l.val, by omega⟩) = D.v d l)
    (hg : ∀ d (l : Fin 197), g (ix4 0 0 d ⟨l.val, by omega⟩) = D.g d l)
    (hc : ∀ j i : Fin 197, codes w0 w1 s (ix2 ⟨j.val, by omega⟩ ⟨i.val, by omega⟩) = D.c j i)
    (hp : ∀ i : Fin 197, p (ix3 0 0 ⟨i.val, by omega⟩) = D.p i) (j i : Fin 197) :
    ds (dp v g) (phat (codes w0 w1 s) p) (ix2 ⟨j.val, by omega⟩ ⟨i.val, by omega⟩) = D.ds j i := by
  rw [ds_apply, rsum_apply, sum_cut (by omega) _ (fun i hi => by rw [dp_zero _ _ hi, zero_mul]),
    phat_of hc hp, dp_of hv hg]
  unfold Data.ds
  congr 2
  exact Finset.sum_congr rfl fun i _ => by rw [phat_of hc hp, dp_of hv hg]

theorem dk_of (hq : ∀ d (l : Fin 197), q (ix4 0 0 d ⟨l.val, by omega⟩) = D.q d l)
    (hv : ∀ d (l : Fin 197), v (ix4 0 0 d ⟨l.val, by omega⟩) = D.v d l)
    (hg : ∀ d (l : Fin 197), g (ix4 0 0 d ⟨l.val, by omega⟩) = D.g d l)
    (hc : ∀ j i : Fin 197, codes w0 w1 s (ix2 ⟨j.val, by omega⟩ ⟨i.val, by omega⟩) = D.c j i)
    (hp : ∀ i : Fin 197, p (ix3 0 0 ⟨i.val, by omega⟩) = D.p i) (d : Fin 64) (j : Fin 197) :
    dk q (ds (dp v g) (phat (codes w0 w1 s) p)) D.s (ix4 0 0 d ⟨j.val, by omega⟩) = D.dk d j := by
  rw [dk_apply, sum_cut (by omega) _ (fun i hi => by rw [tok_zero _ _ hi, zero_mul])]
  unfold Data.dk
  congr 1
  exact Finset.sum_congr rfl fun i _ => by rw [tok_of hq, ds_of hv hg hc hp]

theorem dq_of (hk : ∀ d (l : Fin 197), k (ix4 0 0 d ⟨l.val, by omega⟩) = D.k d l)
    (hv : ∀ d (l : Fin 197), v (ix4 0 0 d ⟨l.val, by omega⟩) = D.v d l)
    (hg : ∀ d (l : Fin 197), g (ix4 0 0 d ⟨l.val, by omega⟩) = D.g d l)
    (hc : ∀ j i : Fin 197, codes w0 w1 s (ix2 ⟨j.val, by omega⟩ ⟨i.val, by omega⟩) = D.c j i)
    (hp : ∀ i : Fin 197, p (ix3 0 0 ⟨i.val, by omega⟩) = D.p i) (d : Fin 64) (i : Fin 197) :
    dq k (ds (dp v g) (phat (codes w0 w1 s) p)) D.s (ix4 0 0 d ⟨i.val, by omega⟩) = D.dq d i := by
  rw [dq_apply, sum_cut (by omega) _ (fun i hi => by rw [tok_zero _ _ (by simpa using hi), zero_mul])]
  unfold Data.dq
  congr 1
  exact Finset.sum_congr rfl fun i _ => by rw [tok_of hk, ds_of hv hg hc hp]

end

end Cert.KernelIdeal.Head
-- ==== Proof.Words.lean ====
module
public import proofs.«01_k».proof.Proof.Gen.KernelIdeal.Launch
public import proofs.«01_k».proof.Proof.Gen.KernelIdeal.Skeleton
public import Idealize.ShloMosaic.Lib.Pointwise
public import proofs.«01_k».proof.Proof.Head
public import Idealize.ShloMosaic.Lib.BitcastFour
public import Idealize.ShloMosaic.Lib.Writes
public import Idealize.ShloMosaic.Lib.WritesUnit
@[expose] public section
noncomputable section
open Idealize.ShloMosaic Idealize.ShloMosaic.TcCoe Idealize.ShloMosaic.Tactic
namespace Cert.KernelIdeal.Words
open Cert.KernelIdeal Cert.KernelIdeal.Gen
set_option maxRecDepth 16384

/-! The scratch buffer: the codes of four heads side by side in one word, keys by queries. -/

/-- The rows of codes with the bytes of four neighbouring heads read as one word. -/
def words (x : Vec Ideal S1x208x16x128 .i8) : IVec S208x4x128 32 :=
  shapeCast S208x4x128 (bitcast S832x128 32
    (shapeCast S3328x128 (shapeCast S208x16x128 x shapeCasts_S1x208x16x128_S208x16x128 : IVec S208x16x128 8)
      shapeCasts_S208x16x128_S3328x128 : IVec S3328x128 8)
    bitcasts_S3328x128_w8_S832x128_w32 : IVec S832x128 32) shapeCasts_S832x128_S208x4x128

theorem ix2_bridge {m n : ℕ} (a : Fin m) (b : Fin n) : ValueIdx.ix2 a b = ix2 a b := by
  funext c
  match c with
  | ⟨0, _⟩ => rfl
  | ⟨1, _⟩ => rfl

theorem words_bit (x : Vec Ideal S1x208x16x128 .i8) (i : Fin 208) (w : Fin 4) (l : Fin 128) (n : ℕ)
    (hn : n < 32) :
    (words x (ix3 i w l)).getLsbD n
      = (show BitVec 8 from x (ix4 0 i ⟨4 * w.val + n / 8, by omega⟩ l)).getLsbD (n % 8) := by
  have key := bitcast_8_32_getLsbD_ix2
    (shapeCast S3328x128 (shapeCast S208x16x128 x shapeCasts_S1x208x16x128_S208x16x128 : IVec S208x16x128 8)
      shapeCasts_S208x16x128_S3328x128 : IVec S3328x128 8)
    bitcasts_S3328x128_w8_S832x128_w32 ⟨i.val * 4 + w.val, by omega⟩ l n hn
    ⟨i.val * 16 + (4 * w.val + n / 8), by omega⟩ (by dsimp only; omega)
  rw [ix2_bridge, ix2_bridge] at key
  pointwise [words]
  refine Eq.trans ?_ (key.trans ?_)
  · pointwise
  · congr 1
    pointwise
    congr 2
    · exact Fin.ext (by dsimp only; omega)
    · exact Fin.ext (by dsimp only; omega)

/-- A byte of a word, shifted to the top and back with its sign, is the byte. -/
theorem byte_of (x : BitVec 32) (b : BitVec 8) (q : Fin 4)
    (h : ∀ n, n < 8 → x.getLsbD (8 * q.val + n) = b.getLsbD n) :
    ((x <<< (24 - 8 * q.val)).sshiftRight 24) = b.signExtend 32 := by
  apply BitVec.eq_of_getLsbD_eq
  intro n hn
  have key : ∀ n, n < 8 → (x <<< (24 - 8 * q.val)).getLsbD (24 + n) = b.getLsbD n := by
    intro n hn
    rw [BitVec.getLsbD_shiftLeft, ← h n hn]
    have e : 24 + n - (24 - 8 * q.val) = 8 * q.val + n := by omega
    have e1 : decide (24 + n < 32) = true := by simp; omega
    have e2 : decide (24 + n < 24 - 8 * q.val) = false := by simp; omega
    rw [e, e1, e2]; simp
  have hm : (x <<< (24 - 8 * q.val)).msb = b.msb := by
    rw [BitVec.msb_eq_getLsbD_last, BitVec.msb_eq_getLsbD_last]
    exact key 7 (by omega)
  rw [BitVec.getLsbD_sshiftRight, BitVec.getLsbD_signExtend, hm]
  by_cases h8 : n < 8
  · rw [if_pos (by omega), if_pos h8, key n h8]; simp [hn]
  · rw [if_neg (by omega), if_neg h8]; simp [hn]

theorem shift_of (x : BitVec 32) (b : BitVec 8) (q : Fin 4)
    (h : ∀ n, n < 8 → x.getLsbD (8 * q.val + n) = b.getLsbD n) :
    (FloatOps.sitofp (F := Ideal) .f32
      (IntOp.shrsi .vector (IntOp.shli .vector x (BitVec.ofNat 32 (24 - 8 * q.val))) 24#32) : EReal)
     = ((b.toInt : ℝ) : EReal) := by
  have := byte_of x b q h
  have e : IntOp.shrsi .vector (IntOp.shli .vector x (BitVec.ofNat 32 (24 - 8 * q.val))) 24#32 =
     ((x <<< (24 - 8 * q.val)).sshiftRight 24) := by
    fin_cases q <;> simp [IntOp.shrsi, IntOp.shli]
  rw [e, this]
  show (((b.signExtend 32).toInt : ℝ) : EReal) = _
  rw [BitVec.toInt_signExtend_of_le (by omega)]

/-- Queries below 128, keys of the first block. -/
def pA (o : Fin 3 → ℕ) (hs : S208x4x128.Slices o S128x1x128) (x : Vec Ideal S1x208x16x128 .i8) :
    IVec S1x1x128x128 32 :=
  shapeCast S1x1x128x128 (transpose S128x128 [1, 0]
    (shapeCast S128x128 (extractStridedSlice S128x1x128 o (words x) hs) shapeCasts_S128x1x128_S128x128)
    transposes_S128x128_p1_0_S128x128) shapeCasts_S128x128_S1x1x128x128

/-- Queries from 128 on, keys of the first block. -/
def pB (o : Fin 3 → ℕ) (hs : S208x4x128.Slices o S80x1x128) (x : Vec Ideal S1x208x16x128 .i8) :
    IVec S1x1x128x80 32 :=
  shapeCast S1x1x128x80 (transpose S128x80 [1, 0]
    (shapeCast S80x128 (extractStridedSlice S80x1x128 o (words x) hs) shapeCasts_S80x1x128_S80x128)
    transposes_S80x128_p1_0_S128x80) shapeCasts_S128x80_S1x1x128x80

/-- Queries below 128, keys of the second block. -/
def pC (o : Fin 3 → ℕ) (hs : S208x4x128.Slices o S128x1x128) (x : Vec Ideal S1x208x16x128 .i8) :
    IVec S1x1x80x128 32 :=
  shapeCast S1x1x80x128 (extractStridedSlice S80x128 ![0, 0] (transpose S128x128 [1, 0]
    (shapeCast S128x128 (extractStridedSlice S128x1x128 o (words x) hs) shapeCasts_S128x1x128_S128x128)
    transposes_S128x128_p1_0_S128x128) slices_S128x128_o0_0_S80x128) shapeCasts_S80x128_S1x1x80x128

/-- Queries from 128 on, keys of the second block. -/
def pD (o : Fin 3 → ℕ) (hs : S208x4x128.Slices o S80x1x128) (x : Vec Ideal S1x208x16x128 .i8) :
    IVec S1x1x80x80 32 :=
  shapeCast S1x1x80x80 (extractStridedSlice S80x80 ![0, 0] (transpose S128x80 [1, 0]
    (shapeCast S80x128 (extractStridedSlice S80x1x128 o (words x) hs) shapeCasts_S80x1x128_S80x128)
    transposes_S80x128_p1_0_S128x80) slices_S128x80_o0_0_S80x80) shapeCasts_S80x80_S1x1x80x80

/-- What the scratch holds: at word group `w`, half `t` of the queries, key `j` and lane `l`, the word
of query `128 t + l`. -/
def G (x4 x5 : Vec Ideal S1x208x16x128 .i8) (y : S4x2x208x128.Idx) : BitVec 32 :=
  if h : (y 1).val * 128 + (y 3).val < 208 then
    if h' : (y 2).val < 128 then words x4 (ix3 ⟨_, h⟩ (y 0) ⟨_, h'⟩)
    else words x5 (ix3 ⟨_, h⟩ (y 0) ⟨(y 2).val - 128, by have : (y 2).val < 208 := (y 2).isLt; omega⟩)
  else 0

/-- A rectangle with unit steps at rank four carries a place to the place displaced by its corner. -/
theorem emb_unit {n0 n1 n2 n3 m0 m1 m2 m3 o0 o1 o2 o3 : ℕ}
    (inb : ∀ a, (![o0, o1, o2, o3] : Fin 4 → ℕ) a + (![m0, m1, m2, m3] : Fin 4 → ℕ) a
      ≤ (⟨4, ![n0, n1, n2, n3]⟩ : Shape).size a)
    (a : Fin m0) (b : Fin m1) (c : Fin m2) (d : Fin m3) (h0 : o0 + a.val < n0) (h1 : o1 + b.val < n1)
    (h2 : o2 + c.val < n2) (h3 : o3 + d.val < n3) :
    (Rect.unit (s := ⟨4, ![n0, n1, n2, n3]⟩) ![o0, o1, o2, o3] ![m0, m1, m2, m3] inb).emb (ix4 a b c d)
      = ix4 ⟨o0 + a.val, h0⟩ ⟨o1 + b.val, h1⟩ ⟨o2 + c.val, h2⟩ ⟨o3 + d.val, h3⟩ := by
  funext k
  fin_cases k <;> exact Fin.ext (by simp [Rect.emb, Rect.unit])

theorem pA_apply (w : Fin 4) (hs : S208x4x128.Slices ![0, w.val, 0] S128x1x128) (inb)
    (x4 x5 : Vec Ideal S1x208x16x128 .i8) (y : S1x1x128x128.Idx) :
    pA _ hs x4 y
      = G x4 x5 ((Rect.unit (s := S4x2x208x128) ![w.val, 0, 0, 0] S1x1x128x128.size inb).emb y) := by
  obtain ⟨u, u', a, b, rfl⟩ : ∃ u u' a b, y = ix4 u u' a b := ⟨_, _, _, _, eq_ix4 y⟩
  obtain rfl : u = 0 := Subsingleton.elim _ _
  obtain rfl : u' = 0 := Subsingleton.elim _ _
  rw [emb_unit inb 0 0 a b (by simp) (by simp) (by omega) (by omega)]
  have hl : pA _ hs x4 (ix4 0 0 a b) = words x4 (ix3 ⟨0 + b.val, by omega⟩ w ⟨a.val, by omega⟩) := by
    fin_cases w <;> pointwise [pA]
  rw [hl]
  unfold G
  simp
  intro h
  omega

theorem pB_apply (w : Fin 4) (hs : S208x4x128.Slices ![128, w.val, 0] S80x1x128) (inb)
    (x4 x5 : Vec Ideal S1x208x16x128 .i8) (y : S1x1x128x80.Idx) :
    pB _ hs x4 y
      = G x4 x5 ((Rect.unit (s := S4x2x208x128) ![w.val, 1, 0, 0] S1x1x128x80.size inb).emb y) := by
  obtain ⟨u, u', a, b, rfl⟩ : ∃ u u' a b, y = ix4 u u' a b := ⟨_, _, _, _, eq_ix4 y⟩
  obtain rfl : u = 0 := Subsingleton.elim _ _
  obtain rfl : u' = 0 := Subsingleton.elim _ _
  rw [emb_unit inb 0 0 a b (by simp) (by simp) (by omega) (by omega)]
  have hl : pB _ hs x4 (ix4 0 0 a b) = words x4 (ix3 ⟨128 + b.val, by omega⟩ w ⟨a.val, by omega⟩) := by
    fin_cases w <;> pointwise [pB]
  rw [hl]
  unfold G
  simp
  intro h
  omega

theorem pC_apply (w : Fin 4) (hs : S208x4x128.Slices ![0, w.val, 0] S128x1x128) (inb)
    (x4 x5 : Vec Ideal S1x208x16x128 .i8) (y : S1x1x80x128.Idx) :
    pC _ hs x5 y
      = G x4 x5 ((Rect.unit (s := S4x2x208x128) ![w.val, 0, 128, 0] S1x1x80x128.size inb).emb y) := by
  obtain ⟨u, u', a, b, rfl⟩ : ∃ u u' a b, y = ix4 u u' a b := ⟨_, _, _, _, eq_ix4 y⟩
  obtain rfl : u = 0 := Subsingleton.elim _ _
  obtain rfl : u' = 0 := Subsingleton.elim _ _
  rw [emb_unit inb 0 0 a b (by simp) (by simp) (by omega) (by omega)]
  have hl : pC _ hs x5 (ix4 0 0 a b) = words x5 (ix3 ⟨0 + b.val, by omega⟩ w ⟨a.val, by omega⟩) := by
    fin_cases w <;> pointwise [pC]
  rw [hl]
  unfold G
  simp
  intro h
  omega

theorem pD_apply (w : Fin 4) (hs : S208x4x128.Slices ![128, w.val, 0] S80x1x128) (inb)
    (x4 x5 : Vec Ideal S1x208x16x128 .i8) (y : S1x1x80x80.Idx) :
    pD _ hs x5 y
      = G x4 x5 ((Rect.unit (s := S4x2x208x128) ![w.val, 1, 128, 0] S1x1x80x80.size inb).emb y) := by
  obtain ⟨u, u', a, b, rfl⟩ : ∃ u u' a b, y = ix4 u u' a b := ⟨_, _, _, _, eq_ix4 y⟩
  obtain rfl : u = 0 := Subsingleton.elim _ _
  obtain rfl : u' = 0 := Subsingleton.elim _ _
  rw [emb_unit inb 0 0 a b (by simp) (by simp) (by omega) (by omega)]
  have hl : pD _ hs x5 (ix4 0 0 a b) = words x5 (ix3 ⟨128 + b.val, by omega⟩ w ⟨a.val, by omega⟩) := by
    fin_cases w <;> pointwise [pD]
  rw [hl]
  unfold G
  simp
  intro h
  omega

theorem slA (w : Fin 4) : S208x4x128.Slices ![0, w.val, 0] S128x1x128 := by
  fin_cases w
  · exact slices_S208x4x128_o0_0_0_S128x1x128
  · exact slices_S208x4x128_o0_1_0_S128x1x128
  · exact slices_S208x4x128_o0_2_0_S128x1x128
  · exact slices_S208x4x128_o0_3_0_S128x1x128

theorem slB (w : Fin 4) : S208x4x128.Slices ![128, w.val, 0] S80x1x128 := by
  fin_cases w
  · exact slices_S208x4x128_o128_0_0_S80x1x128
  · exact slices_S208x4x128_o128_1_0_S80x1x128
  · exact slices_S208x4x128_o128_2_0_S80x1x128
  · exact slices_S208x4x128_o128_3_0_S80x1x128

theorem inb4 (w : Fin 4) {t c m0 m1 : ℕ} (ht : t < 2) (hc : c + m0 ≤ 208) (hm : m1 ≤ 128) :
    ∀ a : Fin 4, (![w.val, t, c, 0] : Fin 4 → ℕ) a + (⟨4, ![1, 1, m0, m1]⟩ : Shape).size a ≤ S4x2x208x128.size a := by
  intro a
  fin_cases a
  · show w.val + 1 ≤ 4; omega
  · show t + 1 ≤ 2; omega
  · exact hc
  · show 0 + m1 ≤ 128; omega

/-- The stores of one word group, last first. -/
def H1 (x4 x5 : Vec Ideal S1x208x16x128 .i8) (w : Fin 4) : List (View.Piece (Elt Ideal) S4x2x208x128 .i32) :=
  [⟨Rect.unit ![w.val, 1, 128, 0] S1x1x80x80.size (inb4 w (by decide) (by decide) (by decide)), pD _ (slB w) x5⟩,
   ⟨Rect.unit ![w.val, 0, 128, 0] S1x1x80x128.size (inb4 w (by decide) (by decide) (by decide)), pC _ (slA w) x5⟩,
   ⟨Rect.unit ![w.val, 1, 0, 0] S1x1x128x80.size (inb4 w (by decide) (by decide) (by decide)), pB _ (slB w) x4⟩,
   ⟨Rect.unit ![w.val, 0, 0, 0] S1x1x128x128.size (inb4 w (by decide) (by decide) (by decide)), pA _ (slA w) x4⟩]

/-- All stores into the scratch buffer, last first. -/
def H (x4 x5 : Vec Ideal S1x208x16x128 .i8) : List (View.Piece (Elt Ideal) S4x2x208x128 .i32) :=
  H1 x4 x5 3 ++ (H1 x4 x5 2 ++ (H1 x4 x5 1 ++ H1 x4 x5 0))

theorem mem_H (x4 x5 : Vec Ideal S1x208x16x128 .i8) (p) :
    p ∈ H x4 x5 ↔ ∃ w, p ∈ H1 x4 x5 w := by
  unfold H
  simp only [List.mem_append]
  constructor
  · rintro (h | h | h | h)
    exacts [⟨_, h⟩, ⟨_, h⟩, ⟨_, h⟩, ⟨_, h⟩]
  · rintro ⟨w, h⟩
    fin_cases w
    exacts [.inr (.inr (.inr h)), .inr (.inr (.inl h)), .inr (.inl h), .inl h]

/-- The scratch reads as `G` wherever a query below 208 sits. -/
theorem read_H {κ : Kind} {sp : Space} (v : View sig κ sp S4x2x208x128 .i32) (f : v.ty.Contents (Elt Ideal))
    (x4 x5 : Vec Ideal S1x208x16x128 .i8) (w : Fin 4) (t : Fin 2) (j : Fin 208) (l : Fin 128)
    (hl : t.val * 128 + l.val < 208) :
    v.read (Elt Ideal) (v.writes (Elt Ideal) f (H x4 x5)) (ix4 w t j l) = G x4 x5 (ix4 w t j l) := by
  refine View.read_writes_apply_of_pieces v f (G x4 x5) _ ?_ _ ?_
  · intro p hp
    obtain ⟨w, hp⟩ := (mem_H _ _ _).1 hp
    unfold H1 at hp
    simp only [List.mem_cons, List.not_mem_nil, or_false] at hp
    rcases hp with rfl | rfl | rfl | rfl
    · exact fun y => pD_apply w (slB w) (inb4 w (by decide) (by decide) (by decide)) x4 x5 y
    · exact fun y => pC_apply w (slA w) (inb4 w (by decide) (by decide) (by decide)) x4 x5 y
    · exact fun y => pB_apply w (slB w) (inb4 w (by decide) (by decide) (by decide)) x4 x5 y
    · exact fun y => pA_apply w (slA w) (inb4 w (by decide) (by decide) (by decide)) x4 x5 y
  · have hm : ∀ p ∈ H1 x4 x5 w, p ∈ H x4 x5 := fun p hp => (mem_H _ _ _).2 ⟨w, hp⟩
    unfold H1 at hm
    simp only [List.forall_mem_cons] at hm
    obtain ⟨hD, hC, hB, hA, -⟩ := hm
    by_cases hj : j.val < 128
    · match t, hl with
      | 0, hl =>
        refine ⟨_, hA, ?_⟩
        refine (Rect.mem_set_unit (inb := inb4 w (by decide) (by decide) (by decide))).2 fun a => ?_
        fin_cases a <;> simp [Shape.size, ix4] <;> omega
      | 1, hl =>
        refine ⟨_, hB, ?_⟩
        refine (Rect.mem_set_unit (inb := inb4 w (by decide) (by decide) (by decide))).2 fun a => ?_
        fin_cases a <;> simp [Shape.size, ix4] <;> omega
    · match t, hl with
      | 0, hl =>
        refine ⟨_, hC, ?_⟩
        refine (Rect.mem_set_unit (inb := inb4 w (by decide) (by decide) (by decide))).2 fun a => ?_
        fin_cases a <;> simp [Shape.size, ix4] <;> omega
      | 1, hl =>
        refine ⟨_, hD, ?_⟩
        refine (Rect.mem_set_unit (inb := inb4 w (by decide) (by decide) (by decide))).2 fun a => ?_
        fin_cases a <;> simp [Shape.size, ix4] <;> omega

/-- The code of head `h`, key `j`, query `i` in the two blocks of rows. -/
def code (x4 x5 : Vec Ideal S1x208x16x128 .i8) (h : Fin 16) (j i : Fin 197) : BitVec 8 :=
  if hj : j.val < 128 then x4 (ix4 0 ⟨i.val, by omega⟩ h ⟨j.val, hj⟩)
  else x5 (ix4 0 ⟨i.val, by omega⟩ h ⟨j.val - 128, by omega⟩)

theorem codes_of (x4 x5 : Vec Ideal S1x208x16x128 .i8) (w0 w1 : Vec Ideal S1x1x208x128 .i32)
    (w q : Fin 4) (h : Fin 16) (hh : h.val = 4 * w.val + q.val)
    (h0 : ∀ (j : Fin 208) (l : Fin 128), w0 (ix4 0 0 j l) = G x4 x5 (ix4 w 0 j l))
    (h1 : ∀ (j : Fin 208) (l : Fin 128), l.val < 80 → w1 (ix4 0 0 j l) = G x4 x5 (ix4 w 1 j l))
    (j i : Fin 197) :
    Head.codes w0 w1 (BitVec.ofNat 32 (24 - 8 * q.val)) (ix2 ⟨j.val, by omega⟩ ⟨i.val, by omega⟩)
      = (((code x4 x5 h j i).toInt : ℝ) : EReal) := by
  rw [Head.codes_apply]
  have key : ∀ (x : Vec Ideal S1x208x16x128 .i8) (l : Fin 128) (n : ℕ), n < 8 →
      (words x (ix3 ⟨i.val, by omega⟩ w l)).getLsbD (8 * q.val + n)
        = (show BitVec 8 from x (ix4 0 ⟨i.val, by omega⟩ h l)).getLsbD n := by
    intro x l n hn
    rw [words_bit _ _ _ _ _ (by omega)]
    have e : (⟨4 * w.val + (8 * q.val + n) / 8, by omega⟩ : Fin 16) = h := Fin.ext (by dsimp only; omega)
    have e' : (8 * q.val + n) % 8 = n := by omega
    rw [e, e']
  have hw : Head.word w0 w1 ⟨j.val, by omega⟩ ⟨i.val, by omega⟩ =
      if hj : j.val < 128 then words x4 (ix3 ⟨i.val, by omega⟩ w ⟨j.val, hj⟩)
      else words x5 (ix3 ⟨i.val, by omega⟩ w ⟨j.val - 128, by omega⟩) := by
    unfold Head.word
    split
    · rw [h0]
      unfold G
      rw [dif_pos (show _ < 208 by show 0 * 128 + i.val < 208; omega)]
      simp [ix4]
    · rename_i hi
      have hi' : 128 ≤ i.val := by simpa using hi
      rw [h1 _ _ (by dsimp only; omega)]
      unfold G
      rw [dif_pos (show _ < 208 by show 1 * 128 + (i.val - 128) < 208; omega)]
      have e : 128 + (i.val - 128) = i.val := by omega
      simp [ix4, e]
  rw [hw]
  unfold code
  split
  · exact shift_of _ _ _ (key _ _)
  · exact shift_of _ _ _ (key _ _)

end Cert.KernelIdeal.Words
-- ==== Proof.Lists.lean ====
module
public import proofs.«01_k».proof.Proof.Words
public import Idealize.ShloMosaic.Lib.Pipeline.FrameBody
@[expose] public section
noncomputable section
open Idealize.ShloMosaic Idealize.ShloMosaic.TcCoe Idealize.ShloMosaic.Tactic
namespace Cert.KernelIdeal.Lists
open Cert.KernelIdeal Cert.KernelIdeal.Gen
set_option maxRecDepth 16384

/-! What the kernel's body stores, head by head, and what each store holds over the sequence. -/

theorem inbT (h : Fin 16) {m : ℕ} (hm : m ≤ 256) :
    ∀ a : Fin 4, (![0, h.val, 0, 0] : Fin 4 → ℕ) a + (⟨4, ![1, 1, 64, m]⟩ : Shape).size a ≤ S1x16x64x256.size a := by
  intro a
  fin_cases a
  · exact Nat.le_refl 1
  · show h.val + 1 ≤ 16; omega
  · exact Nat.le_refl 64
  · show 0 + m ≤ 256; omega

theorem inbP (h : Fin 16) :
    ∀ a : Fin 3, (![0, h.val, 0] : Fin 3 → ℕ) a + S1x1x256.size a ≤ S1x16x256.size a := by
  intro a
  fin_cases a
  · exact Nat.le_refl 1
  · show h.val + 1 ≤ 16; omega
  · exact Nat.le_refl 256

theorem inbW (w : Fin 4) (t : Fin 2) :
    ∀ a : Fin 4, (![w.val, t.val, 0, 0] : Fin 4 → ℕ) a + S1x1x208x128.size a ≤ S4x2x208x128.size a := by
  intro a
  fin_cases a
  · show w.val + 1 ≤ 4; omega
  · show t.val + 1 ≤ 2; omega
  · exact Nat.le_refl 208
  · exact Nat.le_refl 128

/-- The tile of head `h`. -/
def ldT {e : EltTy} (v : Memref sig .tc .vmem S1x16x64x256 e) (f : v.view.ty.Contents (Elt Ideal)) (h : Fin 16) :
    Vec Ideal S1x1x64x256 e :=
  View.readAt (Elt Ideal) v.view (Rect.unit (s := S1x16x64x256) ![0, h.val, 0, 0] S1x1x64x256.size (inbT h (by decide))).toLoadRect f

/-- The row scales of head `h`. -/
def ldP (v : Memref sig .tc .vmem S1x16x256 .f32) (f : v.view.ty.Contents (Elt Ideal)) (h : Fin 16) :
    Vec Ideal S1x1x256 .f32 :=
  View.readAt (Elt Ideal) v.view (Rect.unit (s := S1x16x256) ![0, h.val, 0] S1x1x256.size (inbP h)).toLoadRect f

/-- A whole block of codes. -/
def ldC (v : Memref sig .tc .vmem S1x208x16x128 .i8) (f : v.view.ty.Contents (Elt Ideal)) :
    Vec Ideal S1x208x16x128 .i8 :=
  View.readAt (Elt Ideal) v.view (Rect.unit (s := S1x208x16x128) ![0, 0, 0, 0] S1x208x16x128.size
    inb_S1x208x16x128_S1x208x16x128_0_0_0_0).toLoadRect f

/-- The scale of head `h` at the point `i`. -/
def ldS (v : Memref sig .tc .smem S16x48 .f32) (f : v.view.ty.Contents (Elt Ideal)) (i : grid0.Coords) (h : Fin 16) :
    Elt Ideal .f32 :=
  View.readAt (Elt Ideal) v.view (Rect.unit (s := S16x48) (k0_off1 i (BitVec.ofNat 32 h.val)) S1x1.size (k0_off1_inb i h)).toLoadRect f
    (Shape.Idx.first (show 0 < S1x1.numel by decide))

/-- Half `t` of the words of group `w`. -/
def ldW (v : Memref sig .tc .vmem S4x2x208x128 .i32) (f : v.view.ty.Contents (Elt Ideal)) (w : Fin 4) (t : Fin 2)
    (x4 x5 : Vec Ideal S1x208x16x128 .i8) : Vec Ideal S1x1x208x128 .i32 :=
  View.readAt (Elt Ideal) v.view (Rect.unit (s := S4x2x208x128) ![w.val, t.val, 0, 0] S1x1x208x128.size (inbW w t)).toLoadRect
    (v.view.writes (Elt Ideal) f (Words.H x4 x5))

variable (arg2 arg3 : Memref sig .tc .vmem S1x16x64x256 .bf16)
  (arg4 : Memref sig .tc .vmem S1x16x64x256 .fp8e4m3)
  (arg5 : Memref sig .tc .vmem S1x16x64x256 .bf16)
  (arg6 arg7 : Memref sig .tc .vmem S1x208x16x128 .i8)
  (arg8 : Memref sig .tc .vmem S1x16x256 .f32)
  (arg9 : Memref sig .tc .smem S16x48 .f32)
  (arg13 : Memref sig .tc .vmem S4x2x208x128 .i32)
  (f0 : arg2.view.ty.Contents (Elt Ideal)) (f1 : arg3.view.ty.Contents (Elt Ideal))
  (f2 : arg4.view.ty.Contents (Elt Ideal)) (f3 : arg5.view.ty.Contents (Elt Ideal))
  (f4 : arg6.view.ty.Contents (Elt Ideal)) (f5 : arg7.view.ty.Contents (Elt Ideal))
  (f6 : arg8.view.ty.Contents (Elt Ideal)) (f7 : arg9.view.ty.Contents (Elt Ideal))
  (f11 : arg13.view.ty.Contents (Elt Ideal)) (i : grid0.Coords)

/-- The codes of head `4 w + q`. -/
def hC (w q : Fin 4) : FVec Ideal S208x256 .f32 :=
  Head.codes (ldW arg13 arg13.view.junk w 0 (ldC arg6 f4) (ldC arg7 f5))
    (ldW arg13 f11 w 1 (ldC arg6 f4) (ldC arg7 f5)) (BitVec.ofNat 32 (24 - 8 * q.val))

/-- The head of group `w` at place `q`. -/
abbrev hd (w q : Fin 4) : Fin 16 := ⟨4 * w.val + q.val, by omega⟩

/-- What the body stores as the gradient of the values of one head. -/
def dvS (w q : Fin 4) : View.Piece (Elt Ideal) S1x16x64x256 .bf16 :=
  ⟨Rect.unit (s := S1x16x64x256) ![0, (hd w q).val, 0, 0] S1x1x64x208.size (inbT _ (by decide)),
    Head.dv (ldT arg5 f3 (hd w q)) (Head.phatb (hC arg6 arg7 arg13 f4 f5 f11 w q) (ldP arg8 f6 (hd w q)))⟩

/-- The gradient of the scores of one head. -/
def dsS (w q : Fin 4) : FVec Ideal S208x256 .bf16 :=
  Head.ds (Head.dp (ldT arg4 f2 (hd w q)) (ldT arg5 f3 (hd w q)))
    (Head.phat (hC arg6 arg7 arg13 f4 f5 f11 w q) (ldP arg8 f6 (hd w q)))

/-- What the body stores as the gradient of the keys of one head. -/
def dkS (w q : Fin 4) : View.Piece (Elt Ideal) S1x16x64x256 .bf16 :=
  ⟨Rect.unit (s := S1x16x64x256) ![0, (hd w q).val, 0, 0] S1x1x64x208.size (inbT _ (by decide)),
    Head.dk (ldT arg2 f0 (hd w q)) (dsS arg4 arg5 arg6 arg7 arg8 arg13 f2 f3 f4 f5 f6 f11 w q) (ldS arg9 f7 i (hd w q))⟩

/-- What the body stores as the gradient of the queries of one head. -/
def dqS (w q : Fin 4) : View.Piece (Elt Ideal) S1x16x64x256 .bf16 :=
  ⟨Rect.unit (s := S1x16x64x256) ![0, (hd w q).val, 0, 0] S1x1x64x256.size (inbT _ (by decide)),
    Head.dq (ldT arg3 f1 (hd w q)) (dsS arg4 arg5 arg6 arg7 arg8 arg13 f2 f3 f4 f5 f6 f11 w q) (ldS arg9 f7 i (hd w q))⟩

/-- A list over the sixteen heads, last first. -/
def heads {α : Type} (p : Fin 4 → Fin 4 → α) : List α :=
  [p 3 3, p 3 2, p 3 1, p 3 0, p 2 3, p 2 2, p 2 1, p 2 0, p 1 3, p 1 2, p 1 1, p 1 0, p 0 3, p 0 2, p 0 1, p 0 0]

theorem mem_heads {α : Type} (p : Fin 4 → Fin 4 → α) (x : α) : x ∈ heads p ↔ ∃ w q, x = p w q := by
  unfold heads
  constructor
  · intro h
    simp only [List.mem_cons, List.not_mem_nil, or_false] at h
    rcases h with h | h | h | h | h | h | h | h | h | h | h | h | h | h | h | h <;> exact ⟨_, _, h⟩
  · rintro ⟨w, q, rfl⟩
    fin_cases w <;> fin_cases q <;> simp

/-- A place some store of a list covers reads whatever relation every store of the list keeps. -/
theorem read_writes_rel {κ : Kind} {sp : Space} {s : Shape} {e : EltTy} {Val : EltTy → Type}
    (v : View sig κ sp s e) (f : v.ty.Contents Val) (R : s.Idx → Val e → Prop) :
    ∀ L : List (View.Piece Val s e), (∀ p ∈ L, ∀ x : p.1.shape.Idx, R (p.1.emb x) (p.2 x)) →
      ∀ y : s.Idx, (∃ p ∈ L, y ∈ p.1.set) → R y (v.read Val (v.writes Val f L) y)
  | [], _, _, h => by obtain ⟨_, hm, _⟩ := h; exact absurd hm List.not_mem_nil
  | p :: L, hG, y, h => by
    by_cases hy : y ∈ p.1.set
    · obtain ⟨x, rfl⟩ : ∃ x, p.1.emb x = y := p.1.exists_idx_of_mem hy
      obtain ⟨r, w⟩ := p
      rw [View.read_writes_cons_emb]
      exact hG ⟨r, w⟩ List.mem_cons_self x
    · have hy' : y ∉ Finset.univ.map p.1.emb := by rwa [Rect.map_emb_univ]
      rw [View.writes_cons, View.read_slice_write_of_not_mem p.1 _ _ _ hy']
      refine read_writes_rel v f R L (fun p' hp' => hG p' (List.mem_cons_of_mem _ hp')) y ?_
      obtain ⟨p', hm, hy''⟩ := h
      rcases List.mem_cons.mp hm with rfl | hm
      · exact absurd hy'' hy
      · exact ⟨p', hm, hy''⟩

/-- The data of head `h` in the blocks of the point for batch `b`. -/
def blk (x0 x1 : Vec Ideal S1x16x64x256 .bf16) (x2 : Vec Ideal S1x16x64x256 .fp8e4m3)
    (x3 : Vec Ideal S1x16x64x256 .bf16) (x4 x5 : Vec Ideal S1x208x16x128 .i8) (x6 : Vec Ideal S1x16x256 .f32)
    (x7 : Vec Ideal S16x48 .f32) (b : Fin 48) (h : Fin 16) : Head.Data where
  q d l := x0 (ix4 0 h d ⟨l.val, by omega⟩)
  k d l := x1 (ix4 0 h d ⟨l.val, by omega⟩)
  v d l := x2 (ix4 0 h d ⟨l.val, by omega⟩)
  g d l := x3 (ix4 0 h d ⟨l.val, by omega⟩)
  c j i := (((Words.code x4 x5 h j i).toInt : ℝ) : EReal)
  p i := x6 (ix3 0 h ⟨i.val, by omega⟩)
  s := x7 (ix2 h b)

theorem ldT_apply {e : EltTy} (v : Memref sig .tc .vmem S1x16x64x256 e) (f : v.view.ty.Contents (Elt Ideal)) (h : Fin 16)
    (d : Fin 64) (l : Fin 256) : ldT v f h (ix4 0 0 d l) = v.view.read (Elt Ideal) f (ix4 0 h d l) := by
  unfold ldT
  rw [View.readAt_eq_ld]
  show v.view.read (Elt Ideal) f ((Rect.unit (s := S1x16x64x256) ![0, h.val, 0, 0] S1x1x64x256.size
    (inbT h (by decide))).emb (ix4 0 0 d l)) = _
  rw [Words.emb_unit (inbT h (by decide)) 0 0 d l (by simp) (by simp) (by omega) (by omega)]
  simp

theorem ldC_eq (v : Memref sig .tc .vmem S1x208x16x128 .i8) (f : v.view.ty.Contents (Elt Ideal)) :
    ldC v f = v.view.read (Elt Ideal) f := by
  funext y
  obtain ⟨a, b, d, l, rfl⟩ : ∃ a b d l, y = ix4 a b d l := ⟨_, _, _, _, eq_ix4 y⟩
  unfold ldC
  rw [View.readAt_eq_ld]
  show v.view.read (Elt Ideal) f ((Rect.unit (s := S1x208x16x128) ![0, 0, 0, 0] S1x208x16x128.size
    inb_S1x208x16x128_S1x208x16x128_0_0_0_0).emb (ix4 a b d l)) = _
  rw [Words.emb_unit inb_S1x208x16x128_S1x208x16x128_0_0_0_0 a b d l (by omega) (by omega) (by omega) (by omega)]
  congr 1
  funext k
  fin_cases k <;> exact Fin.ext (by simp [ix4])

theorem ldW_apply (v : Memref sig .tc .vmem S4x2x208x128 .i32) (f : v.view.ty.Contents (Elt Ideal)) (w : Fin 4) (t : Fin 2)
    (x4 x5 : Vec Ideal S1x208x16x128 .i8) (j : Fin 208) (l : Fin 128) (hl : t.val * 128 + l.val < 208) :
    ldW v f w t x4 x5 (ix4 0 0 j l) = Words.G x4 x5 (ix4 w t j l) := by
  unfold ldW
  rw [View.readAt_eq_ld]
  show v.view.read (Elt Ideal) _ ((Rect.unit (s := S4x2x208x128) ![w.val, t.val, 0, 0] S1x1x208x128.size
    (inbW w t)).emb (ix4 0 0 j l)) = _
  rw [Words.emb_unit (inbW w t) 0 0 j l (by simp) (by have := t.isLt; simp; omega) (by omega) (by omega)]
  simpa using Words.read_H v.view f x4 x5 w t j l hl

theorem ldP_apply (v : Memref sig .tc .vmem S1x16x256 .f32) (f : v.view.ty.Contents (Elt Ideal)) (h : Fin 16)
    (l : Fin 256) : ldP v f h (ix3 0 0 l) = v.view.read (Elt Ideal) f (ix3 0 h l) := by
  unfold ldP
  rw [View.readAt_eq_ld]
  show v.view.read (Elt Ideal) f ((Rect.unit (s := S1x16x256) ![0, h.val, 0] S1x1x256.size
    (inbP h)).emb (ix3 0 0 l)) = _
  congr 1
  funext k
  fin_cases k <;> exact Fin.ext (by simp [Rect.emb, Rect.unit, ix3])

theorem ldS_apply (v : Memref sig .tc .smem S16x48 .f32) (f : v.view.ty.Contents (Elt Ideal)) (i : grid0.Coords) (h : Fin 16) :
    ldS v f i h = v.view.read (Elt Ideal) f (ix2 h (i 0)) := by
  unfold ldS
  rw [View.readAt_eq_ld]
  show v.view.read (Elt Ideal) f ((Rect.unit (s := S16x48) (k0_off1 i (BitVec.ofNat 32 h.val)) S1x1.size
    (k0_off1_inb i h)).emb (Shape.Idx.first (s := S1x1) (by decide))) = _
  rw [show Shape.Idx.first (s := S1x1) (by decide) = ix2 0 0 from by
    funext k; match k with | ⟨0, _⟩ => rfl | ⟨1, _⟩ => rfl]
  congr 1
  have e0 : k0_off1 i (BitVec.ofNat 32 h.val) 0 = h.val := by
    have h1 : (i 1).val = 0 := by have : (i 1).val < 1 := (i 1).isLt; omega
    show (Scalar.indexCast (Scalar.addi (Scalar.muli (BitVec.ofNat 32 (i 1).val) 16#32) (BitVec.ofNat 32 h.val))).toNat = _
    rw [h1]
    revert h; decide
  have e1 : k0_off1 i (BitVec.ofNat 32 h.val) 1 = (i 0).val := by
    show (Scalar.indexCast (BitVec.ofNat 32 (i 0).val)).toNat = _
    have : ∀ b : Fin 48, (Scalar.indexCast (BitVec.ofNat 32 b.val)).toNat = b.val := by decide
    exact this (i 0)
  funext k
  fin_cases k
  · exact Fin.ext (by simpa [Rect.emb, Rect.unit, ix2] using e0)
  · exact Fin.ext (by simpa [Rect.emb, Rect.unit, ix2] using e1)

/-- The data of head `h` at the point `i`, read off the buffers. -/
abbrev dat (h : Fin 16) : Head.Data :=
  blk (arg2.view.read (Elt Ideal) f0) (arg3.view.read (Elt Ideal) f1) (arg4.view.read (Elt Ideal) f2)
    (arg5.view.read (Elt Ideal) f3) (arg6.view.read (Elt Ideal) f4) (arg7.view.read (Elt Ideal) f5)
    (arg8.view.read (Elt Ideal) f6) (arg9.view.read (Elt Ideal) f7) (i 0) h

theorem hC_apply (w q : Fin 4) (j l : Fin 197) :
    hC arg6 arg7 arg13 f4 f5 f11 w q (ix2 ⟨j.val, by omega⟩ ⟨l.val, by omega⟩)
      = (((Words.code (arg6.view.read (Elt Ideal) f4) (arg7.view.read (Elt Ideal) f5) (hd w q) j l).toInt : ℝ) : EReal) := by
  rw [← ldC_eq arg6 f4, ← ldC_eq arg7 f5]
  exact Words.codes_of _ _ _ _ w q (hd w q) rfl
    (fun j l => ldW_apply _ _ _ _ _ _ _ _ (by show 0 * 128 + l.val < 208; omega))
    (fun j l hl => ldW_apply _ _ _ _ _ _ _ _ (by show 1 * 128 + l.val < 208; omega)) j l

/-- The stores of a list over the heads, each over the sequence what `X` says, leave `X` over the sequence. -/
theorem read_heads {κ : Kind} {sp : Space} (v : View sig κ sp S1x16x64x256 .bf16) (f : v.ty.Contents (Elt Ideal))
    {n : ℕ} (hn : n ≤ 256) (hn' : 197 ≤ n)
    (P : Fin 4 → Fin 4 → Vec Ideal ⟨4, ![1, 1, 64, n]⟩ .bf16)
    (X : Fin 16 → Fin 64 → Fin 197 → EReal)
    (hP : ∀ w q d (l : Fin 197), P w q (ix4 0 0 d ⟨l.val, by omega⟩) = X (hd w q) d l)
    (h : Fin 16) (d : Fin 64) (l : Fin 197) :
    v.read (Elt Ideal) (v.writes (Elt Ideal) f (heads fun w q =>
      (⟨Rect.unit (s := S1x16x64x256) ![0, (hd w q).val, 0, 0] (⟨4, ![1, 1, 64, n]⟩ : Shape).size (inbT _ hn), P w q⟩ :
        View.Piece (Elt Ideal) S1x16x64x256 .bf16))) (ix4 0 h d ⟨l.val, by omega⟩) = X h d l := by
  have := read_writes_rel v f (fun y x => ∀ hy : (y 3).val < 197, x = X (y 1) (y 2) ⟨(y 3).val, hy⟩)
    (heads fun w q => (⟨Rect.unit (s := S1x16x64x256) ![0, (hd w q).val, 0, 0] (⟨4, ![1, 1, 64, n]⟩ : Shape).size (inbT _ hn), P w q⟩ :
        View.Piece (Elt Ideal) S1x16x64x256 .bf16)) ?_ (ix4 0 h d ⟨l.val, by omega⟩) ?_
  · exact this l.isLt
  · intro p hp
    obtain ⟨w, q, rfl⟩ := (mem_heads _ _).1 hp
    intro y hy
    obtain ⟨u, u', a, b, rfl⟩ : ∃ (u u' : Fin 1) (a : Fin 64) (b : Fin n), y = ix4 u u' a b := ⟨_, _, _, _, eq_ix4 y⟩
    obtain rfl : u = 0 := Subsingleton.elim _ _
    obtain rfl : u' = 0 := Subsingleton.elim _ _
    have e := Words.emb_unit (inbT (hd w q) hn) 0 0 a b (by simp) (by simp; omega) (by omega) (by omega)
    have hb : b.val < 197 := by
      have h3 := congrArg (fun z : S1x16x64x256.Idx => (z 3).val) e
      have h4 : (0 + b.val) = b.val := Nat.zero_add _
      exact (h3.trans h4) ▸ hy
    have hx := hP w q a ⟨b.val, hb⟩
    refine hx.trans ?_
    have key : ∀ z : S1x16x64x256.Idx, z = ix4 ⟨0 + 0, by omega⟩ ⟨(hd w q).val + 0, by simp; omega⟩
        ⟨0 + a.val, by omega⟩ ⟨0 + b.val, by omega⟩ → ∀ hz : (z 3).val < 197,
        X (hd w q) a ⟨b.val, hb⟩ = X (z 1) (z 2) ⟨(z 3).val, hz⟩ := by
      rintro _ rfl hz
      congr 1
      · congr 1
        exact Fin.ext (Nat.zero_add _).symm
      · exact Fin.ext (Nat.zero_add _).symm
    exact key _ e hy
  · refine ⟨_, (mem_heads _ _).2 ⟨⟨h.val / 4, by omega⟩, ⟨h.val % 4, by omega⟩, rfl⟩, ?_⟩
    refine (Rect.mem_set_unit (inb := inbT (hd ⟨h.val / 4, by omega⟩ ⟨h.val % 4, by omega⟩) hn)).2 fun a => ?_
    have eh : 4 * (h.val / 4) + h.val % 4 = h.val := by omega
    fin_cases a <;> simp [Shape.size, ix4, eh] <;> omega

section
variable {κ : Kind} {sp : Space} (v : View sig κ sp S1x16x64x256 .bf16) (f : v.ty.Contents (Elt Ideal))
  (h : Fin 16) (d : Fin 64) (l : Fin 197)

theorem read_dv : v.read (Elt Ideal) (v.writes (Elt Ideal) f (heads (dvS arg5 arg6 arg7 arg8 arg13 f3 f4 f5 f6 f11)))
      (ix4 0 h d ⟨l.val, by omega⟩)
    = (dat arg2 arg3 arg4 arg5 arg6 arg7 arg8 arg9 f0 f1 f2 f3 f4 f5 f6 f7 i h).dv d l :=
  read_heads v f (n := 208) (by decide) (by decide) _
    (fun h => (dat arg2 arg3 arg4 arg5 arg6 arg7 arg8 arg9 f0 f1 f2 f3 f4 f5 f6 f7 i h).dv)
    (fun w q d l => Head.dv_of (D := dat arg2 arg3 arg4 arg5 arg6 arg7 arg8 arg9 f0 f1 f2 f3 f4 f5 f6 f7 i (hd w q))
      (fun _ _ => ldT_apply _ _ _ _ _) (hC_apply arg6 arg7 arg13 f4 f5 f11 w q) (fun _ => ldP_apply _ _ _ _) d l) h d l

theorem read_dk : v.read (Elt Ideal) (v.writes (Elt Ideal) f
      (heads (dkS arg2 arg4 arg5 arg6 arg7 arg8 arg9 arg13 f0 f2 f3 f4 f5 f6 f7 f11 i))) (ix4 0 h d ⟨l.val, by omega⟩)
    = (dat arg2 arg3 arg4 arg5 arg6 arg7 arg8 arg9 f0 f1 f2 f3 f4 f5 f6 f7 i h).dk d l :=
  read_heads v f (n := 208) (by decide) (by decide) _
    (fun h => (dat arg2 arg3 arg4 arg5 arg6 arg7 arg8 arg9 f0 f1 f2 f3 f4 f5 f6 f7 i h).dk)
    (fun w q d l => by
      rw [ldS_apply]
      exact Head.dk_of (D := dat arg2 arg3 arg4 arg5 arg6 arg7 arg8 arg9 f0 f1 f2 f3 f4 f5 f6 f7 i (hd w q))
        (fun _ _ => ldT_apply _ _ _ _ _) (fun _ _ => ldT_apply _ _ _ _ _) (fun _ _ => ldT_apply _ _ _ _ _)
        (hC_apply arg6 arg7 arg13 f4 f5 f11 w q) (fun _ => ldP_apply _ _ _ _) d l) h d l

theorem read_dq : v.read (Elt Ideal) (v.writes (Elt Ideal) f
      (heads (dqS arg3 arg4 arg5 arg6 arg7 arg8 arg9 arg13 f1 f2 f3 f4 f5 f6 f7 f11 i))) (ix4 0 h d ⟨l.val, by omega⟩)
    = (dat arg2 arg3 arg4 arg5 arg6 arg7 arg8 arg9 f0 f1 f2 f3 f4 f5 f6 f7 i h).dq d l :=
  read_heads v f (n := 256) (by decide) (by decide) _
    (fun h => (dat arg2 arg3 arg4 arg5 arg6 arg7 arg8 arg9 f0 f1 f2 f3 f4 f5 f6 f7 i h).dq)
    (fun w q d l => by
      rw [ldS_apply]
      exact Head.dq_of (D := dat arg2 arg3 arg4 arg5 arg6 arg7 arg8 arg9 f0 f1 f2 f3 f4 f5 f6 f7 i (hd w q))
        (fun _ _ => ldT_apply _ _ _ _ _) (fun _ _ => ldT_apply _ _ _ _ _) (fun _ _ => ldT_apply _ _ _ _ _)
        (hC_apply arg6 arg7 arg13 f4 f5 f11 w q) (fun _ => ldP_apply _ _ _ _) d l) h d l

end

end Cert.KernelIdeal.Lists
-- ==== Proof.KernelIdealValue.lean ====
module
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import Idealize.ShloMosaic.Lib.Pipeline.FrameBody
public import Idealize.ShloMosaic.Lib.Pipeline.FrameSuffix
public import proofs.«01_k».proof.Proof.Lists
public import Idealize.ShloMosaic.Lib.Ring
public import Idealize.ShloMosaic.Lib.Tactic
public import Idealize.ShloMosaic.Lib.WordCmp
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.KernelIdeal.Value
open Cert.KernelIdeal Cert.KernelIdeal.Gen
local notation "𝕄" => MT nD τ sig Unit (Elt Ideal) ℕ (UR sig nD τ) ℕ

set_option maxRecDepth 100000
set_option maxHeartbeats 40000000 in
theorem sound_kernel (c : Dev nD) (E : Set ℕ) (i : grid0.Coords)
    (arg2 : Memref sig .tc .vmem S1x16x64x256 .bf16) (harg2 : arg2.IsWhole)
    (arg3 : Memref sig .tc .vmem S1x16x64x256 .bf16) (harg3 : arg3.IsWhole)
    (arg4 : Memref sig .tc .vmem S1x16x64x256 .fp8e4m3) (harg4 : arg4.IsWhole)
    (arg5 : Memref sig .tc .vmem S1x16x64x256 .bf16) (harg5 : arg5.IsWhole)
    (arg6 : Memref sig .tc .vmem S1x208x16x128 .i8) (harg6 : arg6.IsWhole)
    (arg7 : Memref sig .tc .vmem S1x208x16x128 .i8) (harg7 : arg7.IsWhole)
    (arg8 : Memref sig .tc .vmem S1x16x256 .f32) (harg8 : arg8.IsWhole)
    (arg9 : Memref sig .tc .smem S16x48 .f32) (harg9 : arg9.IsWhole)
    (arg10 : Memref sig .tc .vmem S1x16x64x256 .bf16) (harg10 : arg10.IsWhole)
    (arg11 : Memref sig .tc .vmem S1x16x64x256 .bf16) (harg11 : arg11.IsWhole)
    (arg12 : Memref sig .tc .vmem S1x16x64x256 .bf16) (harg12 : arg12.IsWhole)
    (arg13 : Memref sig .tc .vmem S4x2x208x128 .i32) (harg13 : arg13.IsWhole)
    (x0 : Vec Ideal S1x16x64x256 .bf16) (x1 : Vec Ideal S1x16x64x256 .bf16) (x2 : Vec Ideal S1x16x64x256 .fp8e4m3) (x3 : Vec Ideal S1x16x64x256 .bf16) (x4 : Vec Ideal S1x208x16x128 .i8) (x5 : Vec Ideal S1x208x16x128 .i8) (x6 : Vec Ideal S1x16x256 .f32) (x7 : Vec Ideal S16x48 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ (∃ d, ⌜∀ h a (l : Fin 197), d (ix4 0 h a ⟨l.val, by omega⟩) = (Lists.blk x0 x1 x2 x3 x4 x5 x6 x7 (i 0) h).dq a l⌝
            ∗ owns (c : Thread nD τ) arg10 fullShare d)
        ∗ (∃ d, ⌜∀ h a (l : Fin 197), d (ix4 0 h a ⟨l.val, by omega⟩) = (Lists.blk x0 x1 x2 x3 x4 x5 x6 x7 (i 0) h).dk a l⌝
            ∗ owns (c : Thread nD τ) arg11 fullShare d)
        ∗ (∃ d, ⌜∀ h a (l : Fin 197), d (ix4 0 h a ⟨l.val, by omega⟩) = (Lists.blk x0 x1 x2 x3 x4 x5 x6 x7 (i 0) h).dv a l⌝
            ∗ owns (c : Thread nD τ) arg12 fullShare d)
        ∗ (∃ d, owns (c : Thread nD τ) arg13 fullShare d)) -∗ K ⟨⟩))
      ⊢ wp frame (wpE (defs₀ (F := Ideal)) Variants.none c none) E (cc0_mhsa_bwd i arg2 harg2 arg3 harg3 arg4 harg4 arg5 harg5 arg6 harg6 arg7 harg7 arg8 harg8 arg9 harg9 arg10 harg10 arg11 harg11 arg12 harg12 arg13 harg13) K := by
  simp only [cc0_mhsa_bwd_eq_skeleton]; unfold cc0_mhsa_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists arg10.view.read (Elt Ideal) (arg10.view.writes (Elt Ideal) f8 (Lists.heads (Lists.dqS arg3 arg4 arg5 arg6 arg7 arg8 arg9 arg13 f1 f2 f3 f4 f5 f6 f7 f11 i)))
    isplitr
    · ipureintro
      exact fun h a l => Lists.read_dq arg2 arg3 arg4 arg5 arg6 arg7 arg8 arg9 arg13 f0 f1 f2 f3 f4 f5 f6 f7 f11 i _ _ h a l
    iexists _; isplitr; swap; · iexact H8
    ipureintro; rfl
  isplitl [H9]
  · iexists arg11.view.read (Elt Ideal) (arg11.view.writes (Elt Ideal) f9 (Lists.heads (Lists.dkS arg2 arg4 arg5 arg6 arg7 arg8 arg9 arg13 f0 f2 f3 f4 f5 f6 f7 f11 i)))
    isplitr
    · ipureintro
      exact fun h a l => Lists.read_dk arg2 arg3 arg4 arg5 arg6 arg7 arg8 arg9 arg13 f0 f1 f2 f3 f4 f5 f6 f7 f11 i _ _ h a l
    iexists _; isplitr; swap; · iexact H9
    ipureintro; rfl
  isplitl [H10]
  · iexists arg12.view.read (Elt Ideal) (arg12.view.writes (Elt Ideal) f10 (Lists.heads (Lists.dvS arg5 arg6 arg7 arg8 arg13 f3 f4 f5 f6 f11)))
    isplitr
    · ipureintro
      exact fun h a l => Lists.read_dv arg2 arg3 arg4 arg5 arg6 arg7 arg8 arg9 arg13 f0 f1 f2 f3 f4 f5 f6 f7 f11 i _ _ h a l
    iexists _; isplitr; swap; · iexact H10
    ipureintro; rfl
  iexists _, _; isplitr; swap; · iexact H11
  ipureintro; rfl

end Cert.KernelIdeal.Value
-- ==== Proof.Blocks.lean ====
module
public import proofs.«01_k».proof.Proof.KernelIdealValue
public import Idealize.ShloMosaic.Lib.Pipeline.ValueKit
@[expose] public section
set_option maxRecDepth 16384
noncomputable section
open Idealize.ShloMosaic Idealize.ShloMosaic.TcCoe Idealize.ShloMosaic.Tactic
open Idealize.SL.Sem
open Idealize.ShloMosaic.Pipeline (Dat Cfg Window)
namespace Cert.KernelIdeal.Value
open Cert.KernelIdeal Cert.KernelIdeal.Gen
variable (m : (ℓ : Loc nD τ sig) → Buf (Elt Ideal) ℓ)

/-- Where the blocks of the grid's points sit, and how much of each lies inside its array. -/
theorem idx : ∀ t : Fin cfg0.N, win0_0.index t = ![(grid0.coords t 0).val, 0, 0, 0] ∧ win0_1.index t = ![(grid0.coords t 0).val, 0, 0, 0]
    ∧ win0_2.index t = ![(grid0.coords t 0).val, 0, 0, 0] ∧ win0_3.index t = ![(grid0.coords t 0).val, 0, 0, 0]
    ∧ win0_4.index t = ![(grid0.coords t 0).val, 0, 0, 0] ∧ win0_5.index t = ![(grid0.coords t 0).val, 0, 0, 1]
    ∧ win0_6.index t = ![(grid0.coords t 0).val, 0, 0] ∧ win0_7.index t = ![0, 0]
    ∧ win0_8.index t = ![(grid0.coords t 0).val, 0, 0, 0] ∧ win0_9.index t = ![(grid0.coords t 0).val, 0, 0, 0]
    ∧ win0_10.index t = ![(grid0.coords t 0).val, 0, 0, 0] :=
  (by decide +kernel : ∀ t : Fin grid0.N, _)

theorem xs : ∀ t : Fin cfg0.N, win0_0.xsize (grid0.coords t) = ![1, 16, 64, 197] ∧ win0_1.xsize (grid0.coords t) = ![1, 16, 64, 197]
    ∧ win0_2.xsize (grid0.coords t) = ![1, 16, 64, 197] ∧ win0_3.xsize (grid0.coords t) = ![1, 16, 64, 197]
    ∧ win0_4.xsize (grid0.coords t) = ![1, 197, 16, 128] ∧ win0_5.xsize (grid0.coords t) = ![1, 197, 16, 69]
    ∧ win0_6.xsize (grid0.coords t) = ![1, 16, 197]
    ∧ win0_8.xsize (grid0.coords t) = ![1, 16, 64, 197] ∧ win0_9.xsize (grid0.coords t) = ![1, 16, 64, 197]
    ∧ win0_10.xsize (grid0.coords t) = ![1, 16, 64, 197] :=
  (by decide +kernel : ∀ t : Fin grid0.N, _)

/-- The image of a point. -/
theorem coord_val : ∀ t : Fin cfg0.N, (grid0.coords t 0).val = t.val := (by decide +kernel : ∀ t : Fin grid0.N, _)

/-- A staging buffer just fetched, read at a place inside the array, is the array there. -/
theorem fill_read (w : Fin cfg0.W) (c : Dev nD) (t : Fin cfg0.N) (d) (y : (cfg0.win w).block.Idx)
    (hy : ∀ a, (y a).val < (cfg0.win w).xsize (cfg0.grid.coords t) a) :
    (cfg0.win w).fill (cfg0.grid.coords t) d (iblk m c w t) y
      = iblk m c w t (fun a => ⟨(y a).val, hy a⟩) := by
  unfold Window.fill
  rw [dif_pos (((cfg0.win w).moved_iff _ _).2 hy)]

theorem tok_lt (h : Fin 16) (a : Fin 64) (l : Fin 197) (x : Fin 4) :
    ((ix4 (0 : Fin 1) h a (⟨l.val, by omega⟩ : Fin 256) : S1x16x64x256.Idx) x).val < (![1, 16, 64, 197] : Fin 4 → ℕ) x :=
  match x with
  | ⟨0, _⟩ => Nat.zero_lt_one
  | ⟨1, _⟩ => h.isLt
  | ⟨2, _⟩ => a.isLt
  | ⟨3, _⟩ => l.isLt

theorem fill_0 (c : Dev nD) (t : Fin cfg0.N) (d) (h : Fin 16) (a : Fin 64) (l : Fin 197) :
    (cfg0.win 0).fill (cfg0.grid.coords t) d (iblk m c 0 t) (ix4 0 h a ⟨l.val, by omega⟩)
      = V m c main_v1 (ix4 (grid0.coords t 0) h a l) := by
  rw [fill_read m 0 c t d _ (by
    intro x; show _ < win0_0.xsize (grid0.coords t) x; rw [(xs t).1]; exact tok_lt h a l x)]
  blk_ext! [iblk, idx t]

theorem fill_1 (c : Dev nD) (t : Fin cfg0.N) (d) (h : Fin 16) (a : Fin 64) (l : Fin 197) :
    (cfg0.win 1).fill (cfg0.grid.coords t) d (iblk m c 1 t) (ix4 0 h a ⟨l.val, by omega⟩)
      = V m c main_v2 (ix4 (grid0.coords t 0) h a l) := by
  rw [fill_read m 1 c t d _ (by
    intro x; show _ < win0_1.xsize (grid0.coords t) x; rw [(xs t).2.1]; exact tok_lt h a l x)]
  blk_ext! [iblk, idx t]

theorem fill_2 (c : Dev nD) (t : Fin cfg0.N) (d) (h : Fin 16) (a : Fin 64) (l : Fin 197) :
    (cfg0.win 2).fill (cfg0.grid.coords t) d (iblk m c 2 t) (ix4 0 h a ⟨l.val, by omega⟩)
      = V m c main_v3 (ix4 (grid0.coords t 0) h a l) := by
  rw [fill_read m 2 c t d _ (by
    intro x; show _ < win0_2.xsize (grid0.coords t) x; rw [(xs t).2.2.1]; exact tok_lt h a l x)]
  blk_ext! [iblk, idx t]

theorem fill_3 (c : Dev nD) (t : Fin cfg0.N) (d) (h : Fin 16) (a : Fin 64) (l : Fin 197) :
    (cfg0.win 3).fill (cfg0.grid.coords t) d (iblk m c 3 t) (ix4 0 h a ⟨l.val, by omega⟩)
      = V m c main_v4 (ix4 (grid0.coords t 0) h a l) := by
  rw [fill_read m 3 c t d _ (by
    intro x; show _ < win0_3.xsize (grid0.coords t) x; rw [(xs t).2.2.2.1]; exact tok_lt h a l x)]
  blk_ext! [iblk, idx t]

/-- The codes of the keys below 128. -/
theorem fill_4 (c : Dev nD) (t : Fin cfg0.N) (d) (i : Fin 197) (h : Fin 16) (j : Fin 128) :
    (cfg0.win 4).fill (cfg0.grid.coords t) d (iblk m c 4 t) (ix4 0 ⟨i.val, by omega⟩ h j)
      = V m c main_v0 (ix4 (grid0.coords t 0) i h ⟨j.val, by omega⟩) := by
  rw [fill_read m 4 c t d _ (by
    intro x; show _ < win0_4.xsize (grid0.coords t) x; rw [(xs t).2.2.2.2.1]
    match x with
    | ⟨0, _⟩ => exact Nat.zero_lt_one
    | ⟨1, _⟩ => exact i.isLt
    | ⟨2, _⟩ => exact h.isLt
    | ⟨3, _⟩ => exact j.isLt)]
  blk_ext! [iblk, idx t]

/-- The codes of the keys from 128 on. -/
theorem fill_5 (c : Dev nD) (t : Fin cfg0.N) (d) (i : Fin 197) (h : Fin 16) (j : Fin 69) :
    (cfg0.win 5).fill (cfg0.grid.coords t) d (iblk m c 5 t) (ix4 0 ⟨i.val, by omega⟩ h ⟨j.val, by omega⟩)
      = V m c main_v0 (ix4 (grid0.coords t 0) i h ⟨128 + j.val, by omega⟩) := by
  rw [fill_read m 5 c t d _ (by
    intro x; show _ < win0_5.xsize (grid0.coords t) x; rw [(xs t).2.2.2.2.2.1]
    match x with
    | ⟨0, _⟩ => exact Nat.zero_lt_one
    | ⟨1, _⟩ => exact i.isLt
    | ⟨2, _⟩ => exact h.isLt
    | ⟨3, _⟩ => exact j.isLt)]
  blk_ext! [iblk, idx t]

theorem fill_6 (c : Dev nD) (t : Fin cfg0.N) (d) (h : Fin 16) (l : Fin 197) :
    (cfg0.win 6).fill (cfg0.grid.coords t) d (iblk m c 6 t) (ix3 0 h ⟨l.val, by omega⟩)
      = V m c main_arg3 (ix3 (grid0.coords t 0) h l) := by
  rw [fill_read m 6 c t d _ (by
    intro x; show _ < win0_6.xsize (grid0.coords t) x; rw [(xs t).2.2.2.2.2.2.1]
    match x with
    | ⟨0, _⟩ => exact Nat.zero_lt_one
    | ⟨1, _⟩ => exact h.isLt
    | ⟨2, _⟩ => exact l.isLt)]
  blk_ext! [iblk, idx t]

theorem iblk_7 (c : Dev nD) (t : Fin cfg0.N) (h : Fin 16) (b : Fin 48) :
    iblk m c 7 t (ix2 h b) = V m c main_v5 (ix2 h b) := by
  blk_ext! [iblk, idx t]

/-- Batch entry `b`, head `h`, read off the arrays the kernel is called on. -/
def D (c : Dev nD) (b : Fin 48) (h : Fin 16) : Head.Data where
  q d l := V m c main_v1 (ix4 b h d l)
  k d l := V m c main_v2 (ix4 b h d l)
  v d l := V m c main_v3 (ix4 b h d l)
  g d l := V m c main_v4 (ix4 b h d l)
  c j i := (((V m c main_v0 (ix4 b i h j) : BitVec 8).toInt : ℝ) : EReal)
  p i := V m c main_arg3 (ix3 b h i)
  s := V m c main_v5 (ix2 h b)

/-- What a grid point finds in its staging buffers is its batch entry. -/
theorem blk_eq (c : Dev nD) (t : Fin cfg0.N) (d0 d1 d2 d3 d4 d5 d6) (h : Fin 16) :
    Lists.blk ((cfg0.win 0).fill (cfg0.grid.coords t) d0 (iblk m c 0 t)) ((cfg0.win 1).fill (cfg0.grid.coords t) d1 (iblk m c 1 t))
      ((cfg0.win 2).fill (cfg0.grid.coords t) d2 (iblk m c 2 t)) ((cfg0.win 3).fill (cfg0.grid.coords t) d3 (iblk m c 3 t))
      ((cfg0.win 4).fill (cfg0.grid.coords t) d4 (iblk m c 4 t)) ((cfg0.win 5).fill (cfg0.grid.coords t) d5 (iblk m c 5 t))
      ((cfg0.win 6).fill (cfg0.grid.coords t) d6 (iblk m c 6 t)) (iblk m c 7 t) (grid0.coords t 0) h
    = D m c (grid0.coords t 0) h := by
  unfold Lists.blk D
  rw [Head.Data.mk.injEq]
  refine ⟨funext fun d => funext fun l => fill_0 m c t d0 h d l, funext fun d => funext fun l => fill_1 m c t d1 h d l,
    funext fun d => funext fun l => fill_2 m c t d2 h d l, funext fun d => funext fun l => fill_3 m c t d3 h d l,
    funext fun j => funext fun i => ?_, funext fun i => fill_6 m c t d6 h i, iblk_7 m c t h _⟩
  congr 3
  unfold Words.code
  split
  · exact fill_4 m c t d4 i h ⟨j.val, by assumption⟩
  · refine (fill_5 m c t d5 i h ⟨j.val - 128, by omega⟩).trans ?_
    congr 2
    apply Fin.ext
    show 128 + (j.val - 128) = j.val
    omega

end Cert.KernelIdeal.Value
-- ==== Proof.Result.lean ====
module
public import proofs.«01_k».proof.Proof.Blocks
public import Idealize.ShloMosaic.Lib.Claim
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.KernelIdeal.Value
open Cert.KernelIdeal Cert.KernelIdeal.Gen
local notation "𝕄" => MT nD τ sig Unit (Elt Ideal) ℕ (UR sig nD τ) ℕ
variable (m : (ℓ : Loc nD τ sig) → Buf (Elt Ideal) ℓ) (ρ : Dev nD → PrngReg)

/-- An input's staging buffer just fetched, the part outside the array at some contents. -/
def fblk (c : Dev nD) (w : Fin cfg0.W) (t : Fin cfg0.N) : (cfg0.win w).block.Idx → Elt Ideal (cfg0.win w).elt :=
  (cfg0.win w).fill (cfg0.grid.coords t) (fun _ => Classical.arbitrary _) (iblk m c w t)

/-- A result's block: `f` at the 197 positions inside the array, zero past them. -/
def outB (f : Fin 16 → Fin 64 → Fin 197 → EReal) : FVec Ideal S1x16x64x256 .bf16 :=
  fun y => if hy : (y 3).val < 197 then f (y 1) (y 2) ⟨(y 3).val, hy⟩ else 0

/-- What a batch entry's grid point leaves in the three results' staging buffers. -/
def outQ (c : Dev nD) (t : Fin cfg0.N) : FVec Ideal S1x16x64x256 .bf16 := outB fun h => (D m c (grid0.coords t 0) h).dq
def outK (c : Dev nD) (t : Fin cfg0.N) : FVec Ideal S1x16x64x256 .bf16 := outB fun h => (D m c (grid0.coords t 0) h).dk
def outV (c : Dev nD) (t : Fin cfg0.N) : FVec Ideal S1x16x64x256 .bf16 := outB fun h => (D m c (grid0.coords t 0) h).dv

/-- The pipeline's proof data on core `c`: every array as the region finds it, every input's staging buffer left as
    fetched, each result's holding the gradients of the point's batch entry. -/
def dats (_ : Fin 1) (c : Dev nD) : Dat τ (Elt Ideal) Unit ℕ (UR sig nD τ) ℕ cfg0 c where
  A w := V m c (Pipeline.arrRef spec0 w)
  after w t := match w with
    | ⟨0, _⟩ => fblk m c 0 t
    | ⟨1, _⟩ => fblk m c 1 t
    | ⟨2, _⟩ => fblk m c 2 t
    | ⟨3, _⟩ => fblk m c 3 t
    | ⟨4, _⟩ => fblk m c 4 t
    | ⟨5, _⟩ => fblk m c 5 t
    | ⟨6, _⟩ => fblk m c 6 t
    | ⟨7, _⟩ => iblk m c 7 t
    | ⟨8, _⟩ => outQ m c t
    | ⟨9, _⟩ => outK m c t
    | ⟨10, _⟩ => outV m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem before0_0 (c : Dev nD) (t : Fin cfg0.N) (d) :
    (dats m 0 c).before 0 t d = (cfg0.win 0).fill (cfg0.grid.coords t) d (iblk m c 0 t) := by
  unfold Dat.before; rw [if_pos (fetch0_0 t)]; rfl
theorem after0_0 (c : Dev nD) (t : Fin cfg0.N) : (dats m 0 c).after 0 t = fblk m c 0 t := by dsimp only [dats]
theorem before0_1 (c : Dev nD) (t : Fin cfg0.N) (d) :
    (dats m 0 c).before 1 t d = (cfg0.win 1).fill (cfg0.grid.coords t) d (iblk m c 1 t) := by
  unfold Dat.before; rw [if_pos (fetch0_1 t)]; rfl
theorem after0_1 (c : Dev nD) (t : Fin cfg0.N) : (dats m 0 c).after 1 t = fblk m c 1 t := by dsimp only [dats]
theorem before0_2 (c : Dev nD) (t : Fin cfg0.N) (d) :
    (dats m 0 c).before 2 t d = (cfg0.win 2).fill (cfg0.grid.coords t) d (iblk m c 2 t) := by
  unfold Dat.before; rw [if_pos (fetch0_2 t)]; rfl
theorem after0_2 (c : Dev nD) (t : Fin cfg0.N) : (dats m 0 c).after 2 t = fblk m c 2 t := by dsimp only [dats]
theorem before0_3 (c : Dev nD) (t : Fin cfg0.N) (d) :
    (dats m 0 c).before 3 t d = (cfg0.win 3).fill (cfg0.grid.coords t) d (iblk m c 3 t) := by
  unfold Dat.before; rw [if_pos (fetch0_3 t)]; rfl
theorem after0_3 (c : Dev nD) (t : Fin cfg0.N) : (dats m 0 c).after 3 t = fblk m c 3 t := by dsimp only [dats]
theorem before0_4 (c : Dev nD) (t : Fin cfg0.N) (d) :
    (dats m 0 c).before 4 t d = (cfg0.win 4).fill (cfg0.grid.coords t) d (iblk m c 4 t) := by
  unfold Dat.before; rw [if_pos (fetch0_4 t)]; rfl
theorem after0_4 (c : Dev nD) (t : Fin cfg0.N) : (dats m 0 c).after 4 t = fblk m c 4 t := by dsimp only [dats]
theorem before0_5 (c : Dev nD) (t : Fin cfg0.N) (d) :
    (dats m 0 c).before 5 t d = (cfg0.win 5).fill (cfg0.grid.coords t) d (iblk m c 5 t) := by
  unfold Dat.before; rw [if_pos (fetch0_5 t)]; rfl
theorem after0_5 (c : Dev nD) (t : Fin cfg0.N) : (dats m 0 c).after 5 t = fblk m c 5 t := by dsimp only [dats]
theorem before0_6 (c : Dev nD) (t : Fin cfg0.N) (d) :
    (dats m 0 c).before 6 t d = (cfg0.win 6).fill (cfg0.grid.coords t) d (iblk m c 6 t) := by
  unfold Dat.before; rw [if_pos (fetch0_6 t)]; rfl
theorem after0_6 (c : Dev nD) (t : Fin cfg0.N) : (dats m 0 c).after 6 t = fblk m c 6 t := by dsimp only [dats]
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d

theorem defs₀_row (t : Fin cfg0.N) : defs₀ (F := Ideal) .tc cfg0.body (cfg0.bodyArgs t (cfg0.slots t)) = bodyAt0 t := by
  unfold defs₀; rw [Defs.onTc_tc]

theorem after0_8 (c : Dev nD) (t : Fin cfg0.N) : (dats m 0 c).after 8 t = outQ m c t := by dsimp only [dats]
theorem after0_9 (c : Dev nD) (t : Fin cfg0.N) : (dats m 0 c).after 9 t = outK m c t := by dsimp only [dats]
theorem after0_10 (c : Dev nD) (t : Fin cfg0.N) : (dats m 0 c).after 10 t = outV m c t := by dsimp only [dats]

/-- An index inside the array, by its coordinates. -/
theorem y_eq (y : S1x16x64x256.Idx) (h3 : (y 3).val < 197) :
    y = (ix4 (0 : Fin 1) (y 1 : Fin 16) (y 2 : Fin 64) (⟨(y 3).val, by omega⟩ : Fin 256) : S1x16x64x256.Idx) :=
  funext fun a => match a with
  | ⟨0, _⟩ => Subsingleton.elim (α := Fin 1) _ _
  | ⟨1, _⟩ => rfl
  | ⟨2, _⟩ => rfl
  | ⟨3, _⟩ => rfl

theorem out_8 (c : Dev nD) (t : Fin cfg0.N) (e : Vec Ideal S1x16x64x256 .bf16)
    (he : ∀ (h : Fin 16) (a : Fin 64) (l : Fin 197), e (ix4 0 h a ⟨l.val, by omega⟩) = (D m c (grid0.coords t 0) h).dq a l) :
    e = (cfg0.win 8).fill (cfg0.grid.coords t) e ((cfg0.win 8).cut (cfg0.grid.coords t) (outQ m c t)) := by
  funext y
  unfold Window.fill
  split
  · rename_i hm
    have h3 : (y 3).val < 197 := by
      have := ((cfg0.win 8).moved_iff _ _).1 hm 3
      change _ < win0_8.xsize (grid0.coords t) 3 at this
      rw [(xs t).2.2.2.2.2.2.2.1] at this; exact this
    show _ = outB _ y
    unfold outB
    rw [dif_pos h3]
    refine Eq.trans (congrArg e ?_) (he (y 1) (y 2) ⟨(y 3).val, h3⟩)
    exact y_eq y h3
  · rfl

theorem out_9 (c : Dev nD) (t : Fin cfg0.N) (e : Vec Ideal S1x16x64x256 .bf16)
    (he : ∀ (h : Fin 16) (a : Fin 64) (l : Fin 197), e (ix4 0 h a ⟨l.val, by omega⟩) = (D m c (grid0.coords t 0) h).dk a l) :
    e = (cfg0.win 9).fill (cfg0.grid.coords t) e ((cfg0.win 9).cut (cfg0.grid.coords t) (outK m c t)) := by
  funext y
  unfold Window.fill
  split
  · rename_i hm
    have h3 : (y 3).val < 197 := by
      have := ((cfg0.win 9).moved_iff _ _).1 hm 3
      change _ < win0_9.xsize (grid0.coords t) 3 at this
      rw [(xs t).2.2.2.2.2.2.2.2.1] at this; exact this
    show _ = outB _ y
    unfold outB
    rw [dif_pos h3]
    refine Eq.trans (congrArg e ?_) (he (y 1) (y 2) ⟨(y 3).val, h3⟩)
    exact y_eq y h3
  · rfl

theorem out_10 (c : Dev nD) (t : Fin cfg0.N) (e : Vec Ideal S1x16x64x256 .bf16)
    (he : ∀ (h : Fin 16) (a : Fin 64) (l : Fin 197), e (ix4 0 h a ⟨l.val, by omega⟩) = (D m c (grid0.coords t 0) h).dv a l) :
    e = (cfg0.win 10).fill (cfg0.grid.coords t) e ((cfg0.win 10).cut (cfg0.grid.coords t) (outV m c t)) := by
  funext y
  unfold Window.fill
  split
  · rename_i hm
    have h3 : (y 3).val < 197 := by
      have := ((cfg0.win 10).moved_iff _ _).1 hm 3
      change _ < win0_10.xsize (grid0.coords t) 3 at this
      rw [(xs t).2.2.2.2.2.2.2.2.2] at this; exact this
    show _ = outB _ y
    unfold outB
    rw [dif_pos h3]
    refine Eq.trans (congrArg e ?_) (he (y 1) (y 2) ⟨(y 3).val, h3⟩)
    exact y_eq y h3
  · rfl

set_option maxHeartbeats 4000000 in
theorem body_obligation (c : Dev nD) :
    Pipeline.BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨%f11, H11⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0_0 m c t d0, before0_1 m c t d1, before0_2 m c t d2, before0_3 m c t d3, before0_4 m c t d4, before0_5 m c t d5, before0_6 m c t d6, before0_7 m c t d7]
  iapply (sound_kernel c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (Memref.whole cc0_scratch0) (Memref.isWhole_whole _)
    ((cfg0.win 0).fill (cfg0.grid.coords t) d0 (iblk m c 0 t)) ((cfg0.win 1).fill (cfg0.grid.coords t) d1 (iblk m c 1 t)) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists ((dats m 0 c).before 8 t d8); iexact H8
  isplitl [H9]; · iexists ((dats m 0 c).before 9 t d9); iexact H9
  isplitl [H10]; · iexists ((dats m 0 c).before 10 t d10); iexact H10
  isplitl [H11]; · iexists f11; rw [owns_whole]; iexact H11
  iintro ⟨H0, H1, H2, H3, H4, H5, H6, H7, ⟨%e8, %h8, H8⟩, ⟨%e9, %h9, H9⟩, ⟨%e10, %h10, H10⟩, ⟨%e11, H11⟩⟩
  isplitl [H11 Hp]
  · isplitl [H11]
    · iexists e11; rw [owns_whole]; exact .rfl
    · iexact Hp
  isplitl [Ho]; · iexact Ho
  isplitl [H0]
  · iexists d0; rw [after0_0]; unfold fblk; rw [Window.cut_fill]; iexact H0
  isplitl [H1]
  · iexists d1; rw [after0_1]; unfold fblk; rw [Window.cut_fill]; iexact H1
  isplitl [H2]
  · iexists d2; rw [after0_2]; unfold fblk; rw [Window.cut_fill]; iexact H2
  isplitl [H3]
  · iexists d3; rw [after0_3]; unfold fblk; rw [Window.cut_fill]; iexact H3
  isplitl [H4]
  · iexists d4; rw [after0_4]; unfold fblk; rw [Window.cut_fill]; iexact H4
  isplitl [H5]
  · iexists d5; rw [after0_5]; unfold fblk; rw [Window.cut_fill]; iexact H5
  isplitl [H6]
  · iexists d6; rw [after0_6]; unfold fblk; rw [Window.cut_fill]; iexact H6
  isplitl [H7]
  · rw [after0_7]; iexact H7
  isplitl [H8]
  · iexists e8; rw [after0_8, ← out_8 m c t e8 fun h a l => (h8 h a l).trans (by rw [blk_eq])]; iexact H8
  isplitl [H9]
  · iexists e9; rw [after0_9, ← out_9 m c t e9 fun h a l => (h9 h a l).trans (by rw [blk_eq])]; iexact H9
  iexists e10; rw [after0_10, ← out_10 m c t e10 fun h a l => (h10 h a l).trans (by rw [blk_eq])]; iexact H10

set_option backward.isDefEq.respectTransparency.types false in
set_option maxHeartbeats 800000 in
theorem run_main : θ_run defs (onTc (τ := τ) (main (F := Ideal))) ⟨m, fun _ => 0, ρ⟩ (fun r =>
    Pipeline.FramePost cfgs (dats m) 0 (Pipeline.afterTail₀ cfgs (dats m) 0 (V0 m) [hostOps1]) r ∧ r.2.sem = fun _ => 0) :=
  Pipeline.θ_run_frame_around_shared cfgs (dats m) (0 : Fin 1) launch₀0 defs₀ Variants.none m ρ main
    (hbody := body_obligation m) (hq := fun _ _ _ => rfl) (howed := fun _ _ => rfl) (V₀ := V0 m) (opss := [hostOps1])
    (hsub := sfx_sub) (hfresh := sfx_fresh) (hkeep := sfx_keeps)
    (hmain := hmain m Variants.none) (hA := A_eq m) (hΦ := fun _ _ => rfl)
    (Q' := _) (hQ' := fun r h => h)

/-- The three result arrays after the region. -/
def GQ (c : Dev nD) : FVec Ideal S48x16x64x197 .bf16 := fun z => (D m c (z 0) (z 1)).dq (z 2) (z 3)
def GK (c : Dev nD) : FVec Ideal S48x16x64x197 .bf16 := fun z => (D m c (z 0) (z 1)).dk (z 2) (z 3)
def GV (c : Dev nD) : FVec Ideal S48x16x64x197 .bf16 := fun z => (D m c (z 0) (z 1)).dv (z 2) (z 3)

theorem final_8 (c : Dev nD) : (dats m 0 c).arrAt 8 (cfgs 0).N = GQ m c := by
  refine (dats m 0 c).arrAt_eq_of_covers 8 _ (by decide +kernel) fun t _ y => ?_
  blk_simp
  rw [after0_8]
  have hy : ∀ a, (y a).val < (![1, 16, 64, 197] : Fin 4 → ℕ) a := fun a => by
    have h : (y a).val < win0_8.xsize (grid0.coords t) a := (y a).isLt
    rw [(xs t).2.2.2.2.2.2.2.1] at h; exact h
  have h0 : (y 0).val < 1 := hy 0
  have h1 : (y 1).val < 16 := hy 1
  have h2 : (y 2).val < 64 := hy 2
  have h3 : (y 3).val < 197 := hy 3
  have hz : (win0_8.blk t).view.emb y
      = (ix4 (grid0.coords t 0 : Fin 48) (⟨(y 1).val, h1⟩ : Fin 16) (⟨(y 2).val, h2⟩ : Fin 64) (⟨(y 3).val, h3⟩ : Fin 197) : S48x16x64x197.Idx) := by
    blk_ext [idx t]
  rw [hz]
  show outB _ _ = _
  unfold outB
  exact dif_pos h3

theorem final_9 (c : Dev nD) : (dats m 0 c).arrAt 9 (cfgs 0).N = GK m c := by
  refine (dats m 0 c).arrAt_eq_of_covers 9 _ (by decide +kernel) fun t _ y => ?_
  blk_simp
  rw [after0_9]
  have hy : ∀ a, (y a).val < (![1, 16, 64, 197] : Fin 4 → ℕ) a := fun a => by
    have h : (y a).val < win0_9.xsize (grid0.coords t) a := (y a).isLt
    rw [(xs t).2.2.2.2.2.2.2.2.1] at h; exact h
  have h0 : (y 0).val < 1 := hy 0
  have h1 : (y 1).val < 16 := hy 1
  have h2 : (y 2).val < 64 := hy 2
  have h3 : (y 3).val < 197 := hy 3
  have hz : (win0_9.blk t).view.emb y
      = (ix4 (grid0.coords t 0 : Fin 48) (⟨(y 1).val, h1⟩ : Fin 16) (⟨(y 2).val, h2⟩ : Fin 64) (⟨(y 3).val, h3⟩ : Fin 197) : S48x16x64x197.Idx) := by
    blk_ext [idx t]
  rw [hz]
  show outB _ _ = _
  unfold outB
  exact dif_pos h3

theorem final_10 (c : Dev nD) : (dats m 0 c).arrAt 10 (cfgs 0).N = GV m c := by
  refine (dats m 0 c).arrAt_eq_of_covers 10 _ (by decide +kernel) fun t _ y => ?_
  blk_simp
  rw [after0_10]
  have hy : ∀ a, (y a).val < (![1, 16, 64, 197] : Fin 4 → ℕ) a := fun a => by
    have h : (y a).val < win0_10.xsize (grid0.coords t) a := (y a).isLt
    rw [(xs t).2.2.2.2.2.2.2.2.2] at h; exact h
  have h0 : (y 0).val < 1 := hy 0
  have h1 : (y 1).val < 16 := hy 1
  have h2 : (y 2).val < 64 := hy 2
  have h3 : (y 3).val < 197 := hy 3
  have hz : (win0_10.blk t).view.emb y
      = (ix4 (grid0.coords t 0 : Fin 48) (⟨(y 1).val, h1⟩ : Fin 16) (⟨(y 2).val, h2⟩ : Fin 64) (⟨(y 3).val, h3⟩ : Fin 197) : S48x16x64x197.Idx) := by
    blk_ext [idx t]
  rw [hz]
  show outB _ _ = _
  unfold outB
  exact dif_pos h3

end Cert.KernelIdeal.Value
-- ==== Proof.Maths.lean ====
module
public import proofs.«01_k».proof.Proof.Head
@[expose] public section
noncomputable section
open Idealize.ShloMosaic
namespace Cert.KernelIdeal.Head
open Cert.KernelIdeal

/-- Batch entry `b`, head `h`, read off the arguments of the two programs. -/
def data (q k : FVec Ideal S48x197x16x64 .bf16) (pc : Vec Ideal S48x16x197x197 .i8) (ps : FVec Ideal S48x16x197 .f32)
    (vc : FVec Ideal S48x197x16x64 .fp8e4m3) (vs : FVec Ideal S48x16 .f32) (g : FVec Ideal S48x197x16x64 .bf16)
    (b : Fin 48) (h : Fin 16) : Data where
  q d l := q (ix4 b l h d)
  k d l := k (ix4 b l h d)
  v d l := vc (ix4 b l h d)
  g d l := g (ix4 b l h d)
  c j i := (((pc (ix4 b h i j) : BitVec 8).toInt : ℝ) : EReal)
  p i := ps (ix3 b h i)
  s := vs (ix2 b h)

namespace Data
variable (D : Data)

/-- dP with the scale of the values on every entry, as the reference has it. -/
def rdp (j i : Fin 197) : EReal := (∑ d, D.g d i * D.v d j) * D.s
/-- dS in the reference's order. -/
def rds (j i : Fin 197) : EReal := D.ph j i * (D.rdp j i - ∑ j', D.rdp j' i * D.ph j' i)
def rdk (d : Fin 64) (j : Fin 197) : EReal := Ideal.ofBits .f32 0x3E000000#32 * ∑ i, D.q d i * D.rds j i
def rdq (d : Fin 64) (i : Fin 197) : EReal := Ideal.ofBits .f32 0x3E000000#32 * ∑ j, D.k d j * D.rds j i

theorem sum_mul_scale {n : ℕ} (f : Fin n → EReal) (s : EReal) (h0 : 0 ≤ s) (h1 : s ≠ ⊤) :
    ∑ x, f x * s = (∑ x, f x) * s := by
  induction n with
  | zero => simp
  | succ n ih => rw [Fin.sum_univ_succ, Fin.sum_univ_succ, ih, EReal.right_distrib_of_nonneg_of_ne_top h0 h1]

theorem rdp_eq (j i : Fin 197) : D.rdp j i = D.dp j i * D.s := by
  unfold rdp dp
  congr 1
  exact Finset.sum_congr rfl fun d _ => mul_comm _ _

theorem rds_eq (h0 : 0 ≤ D.s) (h1 : D.s ≠ ⊤) (j i : Fin 197) : D.rds j i = D.ds j i * D.s := by
  unfold rds ds
  have e : ∑ j', D.rdp j' i * D.ph j' i = (∑ j', D.dp j' i * D.ph j' i) * D.s := by
    rw [← sum_mul_scale _ _ h0 h1]
    exact Finset.sum_congr rfl fun j' _ => by rw [rdp_eq]; exact mul_right_comm _ _ _
  rw [e, rdp_eq, mul_assoc, sub_eq_add_neg, sub_eq_add_neg, EReal.right_distrib_of_nonneg_of_ne_top h0 h1, EReal.neg_mul]

theorem rdk_eq (h0 : 0 ≤ D.s) (h1 : D.s ≠ ⊤) (d : Fin 64) (j : Fin 197) : D.rdk d j = D.dk d j := by
  unfold rdk dk
  have e : ∑ i, D.q d i * D.rds j i = (∑ i, D.q d i * D.ds j i) * D.s := by
    rw [← sum_mul_scale _ _ h0 h1]
    exact Finset.sum_congr rfl fun i _ => by rw [rds_eq D h0 h1, mul_assoc]
  rw [e, mul_comm, mul_assoc]

theorem rdq_eq (h0 : 0 ≤ D.s) (h1 : D.s ≠ ⊤) (d : Fin 64) (i : Fin 197) : D.rdq d i = D.dq d i := by
  unfold rdq dq
  have e : ∑ j, D.k d j * D.rds j i = (∑ j, D.k d j * D.ds j i) * D.s := by
    rw [← sum_mul_scale _ _ h0 h1]
    exact Finset.sum_congr rfl fun j _ => by rw [rds_eq D h0 h1, mul_assoc]
  rw [e, mul_comm, mul_assoc]

end Data
end Cert.KernelIdeal.Head
-- ==== Proof.Output.lean ====
module
public import proofs.«01_k».proof.Proof.Result
public import proofs.«01_k».proof.Proof.Maths
public import Idealize.ShloMosaic.Lib.Pointwise
@[expose] public section
set_option maxRecDepth 16384
noncomputable section
open Idealize.ShloMosaic Idealize.ShloMosaic.TcCoe Idealize.ShloMosaic.Tactic
open Idealize.SL.Sem
open Idealize.ShloMosaic.Pipeline (Dat Cfg Window)
namespace Cert.KernelIdeal.Value
open Cert.KernelIdeal Cert.KernelIdeal.Gen
variable (m : (ℓ : Loc nD τ sig) → Buf (Elt Ideal) ℓ) (ρ : Dev nD → PrngReg)

/-- The arrays the kernel is called on are the arguments transposed. -/
theorem D_eq (c : Dev nD) (b : Fin 48) (h : Fin 16) :
    D m c b h = Head.data (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) b h := by
  unfold D Head.data V V0 hostOps0
  simp only [List.flatten_cons, List.flatten_nil, List.append_nil, StableHlo.after_cons, StableHlo.after_nil]
  after_results_simp
  rw [Head.Data.mk.injEq]
  refine ⟨?_, ?_, ?_, ?_, ?_, ?_, ?_⟩
  all_goals (try funext x); (try funext y); pointwise

/-- dQ after the host operation that follows the region, entry by entry. -/
theorem at_7 (c : Dev nD) (b : Fin 48) (i : Fin 197) (h : Fin 16) (d : Fin 64) :
    Pipeline.afterTail₀ cfgs (dats m) 0 (V0 m) [hostOps1] c main_v7 (ix4 b i h d)
      = (Head.data (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h).dq d i := by
  unfold Pipeline.afterTail₀
  have h8 := (dats m 0 c).withArrays_arrAt sharedIn0 (V0 m c) (A_eq m c) 8
  rw [final_8] at h8
  rw [← D_eq]
  generalize Pipeline.withArrays _ c (V0 m c) _ = σ at *
  unfold hostOps1
  simp only [List.flatten_cons, List.flatten_nil, List.append_nil, StableHlo.after_cons, StableHlo.after_nil]
  after_results_simp
  refine (congrFun (congrArg (fun x => transpose S48x197x16x64 [0, 3, 1, 2] x transposes_S48x16x64x197_S48x197x16x64_0_3_1_2) h8) _).trans ?_
  pointwise
  rfl

/-- dK after the host operation that follows the region, entry by entry. -/
theorem at_8 (c : Dev nD) (b : Fin 48) (i : Fin 197) (h : Fin 16) (d : Fin 64) :
    Pipeline.afterTail₀ cfgs (dats m) 0 (V0 m) [hostOps1] c main_v8 (ix4 b i h d)
      = (Head.data (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h).dk d i := by
  unfold Pipeline.afterTail₀
  have h8 := (dats m 0 c).withArrays_arrAt sharedIn0 (V0 m c) (A_eq m c) 9
  rw [final_9] at h8
  rw [← D_eq]
  generalize Pipeline.withArrays _ c (V0 m c) _ = σ at *
  unfold hostOps1
  simp only [List.flatten_cons, List.flatten_nil, List.append_nil, StableHlo.after_cons, StableHlo.after_nil]
  after_results_simp
  refine (congrFun (congrArg (fun x => transpose S48x197x16x64 [0, 3, 1, 2] x transposes_S48x16x64x197_S48x197x16x64_0_3_1_2) h8) _).trans ?_
  pointwise
  rfl

/-- dV after the host operation that follows the region, entry by entry. -/
theorem at_9 (c : Dev nD) (b : Fin 48) (i : Fin 197) (h : Fin 16) (d : Fin 64) :
    Pipeline.afterTail₀ cfgs (dats m) 0 (V0 m) [hostOps1] c main_v9 (ix4 b i h d)
      = (Head.data (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h).dv d i := by
  unfold Pipeline.afterTail₀
  have h8 := (dats m 0 c).withArrays_arrAt sharedIn0 (V0 m c) (A_eq m c) 10
  rw [final_10] at h8
  rw [← D_eq]
  generalize Pipeline.withArrays _ c (V0 m c) _ = σ at *
  unfold hostOps1
  simp only [List.flatten_cons, List.flatten_nil, List.append_nil, StableHlo.after_cons, StableHlo.after_nil]
  after_results_simp
  refine (congrFun (congrArg (fun x => transpose S48x197x16x64 [0, 3, 1, 2] x transposes_S48x16x64x197_S48x197x16x64_0_3_1_2) h8) _).trans ?_
  pointwise
  rfl

end Cert.KernelIdeal.Value
-- ==== Proof.RefValue.lean ====
module
public import proofs.«01_k».proof.Proof.Gen.ReferenceIdeal.Frame
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.ShloMosaic.Tactic
open Idealize.SL.Sem
open Idealize.ShloMosaic.Pipeline (Dat Cfg Window)
namespace Cert.ReferenceIdeal.Value
open Cert.ReferenceIdeal Cert.ReferenceIdeal.Gen
variable (m : (ℓ : Loc nD τ sig) → Buf (Elt Ideal) ℓ) (ρ : Dev nD → PrngReg)

theorem idx : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0, 0, 0] :=
  (by decide +kernel : ∀ t : Fin grid0.N, _)

/-- The widened codes, as the region leaves them. -/
theorem final_2 (c : Dev nD) : (dats m 0 c).arrAt 2 (cfgs 0).N = k0_pay1 (F := Ideal) (m ((c : Thread nD τ).loc main_arg2)) := by
  refine (dats m 0 c).arrAt_eq_of_after_last 2 t0_0 (by decide +kernel) _ fun j => ?_
  blk_simp; rw [after0_2]; frame_out; blk_point [iblk, V, idx t0_0]
theorem final_3 (c : Dev nD) : (dats m 0 c).arrAt 3 (cfgs 0).N = k0_pay2 (F := Ideal) (m ((c : Thread nD τ).loc main_arg2)) := by
  refine (dats m 0 c).arrAt_eq_of_after_last 3 t0_0 (by decide +kernel) _ fun j => ?_
  blk_simp; rw [after0_3]; frame_out; blk_point [iblk, V, idx t0_0]
theorem final_4 (c : Dev nD) : (dats m 0 c).arrAt 4 (cfgs 0).N = k0_pay3 (F := Ideal) (m ((c : Thread nD τ).loc main_arg4)) := by
  refine (dats m 0 c).arrAt_eq_of_after_last 4 t0_0 (by decide +kernel) _ fun j => ?_
  blk_simp; rw [after0_4]; frame_out; blk_point [iblk, V, idx t0_0]

end Cert.ReferenceIdeal.Value
-- ==== Proof.RefOutput.lean ====
module
public import proofs.«01_k».proof.Proof.RefValue
public import proofs.«01_k».proof.Proof.Maths
@[expose] public section
set_option maxRecDepth 16384
noncomputable section
open Idealize.ShloMosaic Idealize.ShloMosaic.TcCoe Idealize.ShloMosaic.Tactic
open Idealize.SL.Sem
open Idealize.ShloMosaic.Pipeline (Dat Cfg Window)
namespace Cert.ReferenceIdeal.Value
open Cert.ReferenceIdeal Cert.ReferenceIdeal.Gen
variable (m : (ℓ : Loc nD τ sig) → Buf (Elt Ideal) ℓ) (ρ : Dev nD → PrngReg)

/-- The buffers as the region leaves them: what the host operations after it read. -/
abbrev σ (c : Dev nD) : Valuation τ sig (Elt Ideal) :=
  Pipeline.withArrays cfg0.spec c (V0 m c) fun w => (dats m 0 c).arrAt w cfg0.N

theorem σ_main_v0_0 (c : Dev nD) : σ m c (Proc.devRef .tc main_v0_0) = k0_pay1 (F := Ideal) (m ((c : Thread nD τ).loc main_arg2)) :=
  (Pipeline.withArrays_arr _ launch0.win.arr_inj c _ _ 2).trans (final_2 m c)
theorem σ_main_v0_1 (c : Dev nD) : σ m c (Proc.devRef .tc main_v0_1) = k0_pay2 (F := Ideal) (m ((c : Thread nD τ).loc main_arg2)) :=
  (Pipeline.withArrays_arr _ launch0.win.arr_inj c _ _ 3).trans (final_3 m c)
theorem σ_main_v0_2 (c : Dev nD) : σ m c (Proc.devRef .tc main_v0_2) = k0_pay3 (F := Ideal) (m ((c : Thread nD τ).loc main_arg4)) :=
  (Pipeline.withArrays_arr _ launch0.win.arr_inj c _ _ 4).trans (final_4 m c)
theorem σ_main_arg0 (c : Dev nD) : σ m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)
theorem σ_main_arg1 (c : Dev nD) : σ m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem σ_main_arg3 (c : Dev nD) : σ m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem σ_main_arg5 (c : Dev nD) : σ m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)
theorem σ_main_arg6 (c : Dev nD) : σ m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

/-- Batch entry `b`, head `h`, of the arguments in memory `m`. -/
abbrev E (c : Dev nD) (b : Fin 48) (h : Fin 16) : Cert.KernelIdeal.Head.Data :=
  Cert.KernelIdeal.Head.data (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) b h

/-- dV, entry by entry. -/
theorem at_31 (c : Dev nD) (b : Fin 48) (i : Fin 197) (h : Fin 16) (d : Fin 64) :
    Pipeline.afterTail₀ cfgs (dats m) 0 (V0 m) [hostOps1] c main_v31 (ix4 b i h d) = (E m c b h).dv d i := by
  change StableHlo.after [hostOps1].flatten (σ m c) (Proc.devRef .tc main_v31) (ix4 b i h d) = _
  have h2 := σ_main_v0_0 m c
  have h3 := σ_main_v0_1 m c
  have h4 := σ_main_v0_2 m c
  have a0 := σ_main_arg0 m c
  have a1 := σ_main_arg1 m c
  have a3 := σ_main_arg3 m c
  have a5 := σ_main_arg5 m c
  have a6 := σ_main_arg6 m c
  generalize σ m c = s at *
  unfold hostOps1
  simp only [List.flatten_cons, List.flatten_nil, List.append_nil, StableHlo.after_cons, StableHlo.after_nil]
  after_results_simp
  rw [h3, a6, a3]
  pointwise [k0_pay2]
  rfl

/-- dQ, entry by entry. -/
theorem at_29 (c : Dev nD) (b : Fin 48) (i : Fin 197) (h : Fin 16) (d : Fin 64) :
    Pipeline.afterTail₀ cfgs (dats m) 0 (V0 m) [hostOps1] c main_v29 (ix4 b i h d) = (E m c b h).rdq d i := by
  change StableHlo.after [hostOps1].flatten (σ m c) (Proc.devRef .tc main_v29) (ix4 b i h d) = _
  have h2 := σ_main_v0_0 m c
  have h3 := σ_main_v0_1 m c
  have h4 := σ_main_v0_2 m c
  have a0 := σ_main_arg0 m c
  have a1 := σ_main_arg1 m c
  have a3 := σ_main_arg3 m c
  have a5 := σ_main_arg5 m c
  have a6 := σ_main_arg6 m c
  generalize σ m c = s at *
  unfold hostOps1
  simp only [List.flatten_cons, List.flatten_nil, List.append_nil, StableHlo.after_cons, StableHlo.after_nil]
  after_results_simp
  rw [h2, h4, a1, a3, a5, a6]
  pointwise [k0_pay1, k0_pay3]
  rfl

/-- dK, entry by entry. -/
theorem at_30 (c : Dev nD) (b : Fin 48) (i : Fin 197) (h : Fin 16) (d : Fin 64) :
    Pipeline.afterTail₀ cfgs (dats m) 0 (V0 m) [hostOps1] c main_v30 (ix4 b i h d) = (E m c b h).rdk d i := by
  change StableHlo.after [hostOps1].flatten (σ m c) (Proc.devRef .tc main_v30) (ix4 b i h d) = _
  have h2 := σ_main_v0_0 m c
  have h3 := σ_main_v0_1 m c
  have h4 := σ_main_v0_2 m c
  have a0 := σ_main_arg0 m c
  have a1 := σ_main_arg1 m c
  have a3 := σ_main_arg3 m c
  have a5 := σ_main_arg5 m c
  have a6 := σ_main_arg6 m c
  generalize σ m c = s at *
  unfold hostOps1
  simp only [List.flatten_cons, List.flatten_nil, List.append_nil, StableHlo.after_cons, StableHlo.after_nil]
  after_results_simp
  rw [h2, h4, a0, a3, a5, a6]
  pointwise [k0_pay1, k0_pay3]
  rfl

end Cert.ReferenceIdeal.Value
-- ==== Proof.Scale.lean ====
module
public import proofs.«01_k».proof.Pre_scale_ok
public import Idealize.ShloMosaic.Lib.Pointwise
@[expose] public section
noncomputable section
open Idealize.ShloMosaic
namespace Cert.Pre_scale_ok

/-- A scalar broadcasts. -/
instance facts : Facts where
  bcast_S_S48x16 := by decide

/-- The precondition at one head: the values' scale is a nonnegative number below infinity. -/
theorem scale (x0 x1 : FVec Ideal S48x197x16x64 .bf16) (x2 : IVec S48x16x197x197 8) (x3 : FVec Ideal S48x16x197 .f32)
    (x4 : FVec Ideal S48x197x16x64 .fp8e4m3) (x5 : FVec Ideal S48x16 .f32) (x6 : FVec Ideal S48x197x16x64 .bf16)
    (hp : fn (F := Ideal) x0 x1 x2 x3 x4 x5 x6 = fun _ => 1#1) (b : Fin 48) (h : Fin 16) :
    (0 : EReal) ≤ x5 (ix2 b h) ∧ (x5 (ix2 b h) : EReal) ≠ ⊤ := by
  have e := congrFun hp (ix2 b h)
  revert e
  pointwise [fn]
  intro e
  by_cases h0 : (0 : EReal) ≤ x5 (ix2 b h)
  · by_cases h1 : (x5 (ix2 b h) : EReal) < Ideal.ofBits FTy.f32 2139095040#32
    · exact ⟨h0, ne_top_of_lt h1⟩
    · rw [decide_eq_false h1] at e
      simp [IntOp.andi] at e
  · rw [decide_eq_false h0] at e
    simp [IntOp.andi] at e

end Cert.Pre_scale_ok
-- ==== Proof.Pair.lean ====
module
public import proofs.«01_k».proof.Proof.Output
public import proofs.«01_k».proof.Proof.RefOutput
public import proofs.«01_k».proof.Proof.Scale
@[expose] public section
set_option maxRecDepth 16384
noncomputable section
open Idealize.ShloMosaic Idealize.ShloMosaic.TcCoe Idealize.SL.Sem
open Cert.KernelIdeal.Head (Data data)

namespace Cert.KernelIdeal.Value
open Cert.KernelIdeal Cert.KernelIdeal.Gen
variable (m : (ℓ : Loc nD τ sig) → Buf (Elt Ideal) ℓ) (ρ : Dev nD → PrngReg)

/-- The idealized kernel terminates and leaves its arguments as they were. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) ((θ_run defs _ _).mono (fun _ h => h.1) (run_main m ρ))

/-- And every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main m ρ))

/-- A result of the kernel, as the host operations after the region leave it. -/
abbrev res (c : Dev nD) (b : Ref sig .tc) : Buf (Elt Ideal) ((c.tc : Thread nD τ).loc b) :=
  Pipeline.afterTail₀ cfgs (dats m) 0 (V0 m) [hostOps1] c b

theorem results : θ_run defs (onTc (τ := τ) (main (F := Ideal))) ⟨m, fun _ => 0, ρ⟩ (fun r => ∀ c : Dev nD,
    r.2.mem ((c.tc : Thread nD τ).loc main_v7) = res m c main_v7
    ∧ r.2.mem ((c.tc : Thread nD τ).loc main_v8) = res m c main_v8
    ∧ r.2.mem ((c.tc : Thread nD τ).loc main_v9) = res m c main_v9) :=
  (θ_run defs _ _).mono (fun _ h c => ⟨(h.1 c).2 main_v7 (Pipeline.mem_restRefs_of main_v7 (by decide) (by decide)),
    (h.1 c).2 main_v8 (Pipeline.mem_restRefs_of main_v8 (by decide) (by decide)),
    (h.1 c).2 main_v9 (Pipeline.mem_restRefs_of main_v9 (by decide) (by decide))⟩) (run_main m ρ)

end Cert.KernelIdeal.Value

namespace Cert.ReferenceIdeal.Value
open Cert.ReferenceIdeal Cert.ReferenceIdeal.Gen
variable (m : (ℓ : Loc nD τ sig) → Buf (Elt Ideal) ℓ) (ρ : Dev nD → PrngReg)

/-- A result of the reference, as its host operations leave it. -/
abbrev res (c : Dev nD) (b : Ref sig .tc) : Buf (Elt Ideal) ((c.tc : Thread nD τ).loc b) :=
  Pipeline.afterTail₀ cfgs (dats m) 0 (V0 m) [hostOps1] c b

theorem results : θ_run defs (onTc (τ := τ) (main (F := Ideal))) ⟨m, fun _ => 0, ρ⟩ (fun r => ∀ c : Dev nD,
    r.2.mem ((c.tc : Thread nD τ).loc main_v29) = res m c main_v29
    ∧ r.2.mem ((c.tc : Thread nD τ).loc main_v30) = res m c main_v30
    ∧ r.2.mem ((c.tc : Thread nD τ).loc main_v31) = res m c main_v31) :=
  (θ_run defs _ _).mono (fun _ h c => ⟨(h c).2 main_v29 (Pipeline.mem_restRefs_of main_v29 (by decide) (by decide)),
    (h c).2 main_v30 (Pipeline.mem_restRefs_of main_v30 (by decide) (by decide)),
    (h c).2 main_v31 (Pipeline.mem_restRefs_of main_v31 (by decide) (by decide))⟩) (run_main m ρ)

end Cert.ReferenceIdeal.Value

namespace Cert.Pair
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The arguments the kernel's memory holds, batch entry `b`, head `h`. -/
abbrev E (b : Fin 48) (h : Fin 16) : Data :=
  data (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3))
    (m ((c : Thread Cert.KernelIdeal.nD Cert.KernelIdeal.τ).loc Cert.KernelIdeal.main_arg4))
    (m ((c : Thread Cert.KernelIdeal.nD Cert.KernelIdeal.τ).loc Cert.KernelIdeal.main_arg5))
    (m ((c : Thread Cert.KernelIdeal.nD Cert.KernelIdeal.τ).loc Cert.KernelIdeal.main_arg6)) b h

variable (hE : ∀ b h, Cert.ReferenceIdeal.Value.E m' c b h = E m c b h)
  (hs : ∀ b h, 0 ≤ (E m c b h).s ∧ (E m c b h).s ≠ ⊤)
include hE

include hs in
/-- dQ: the reference's array is the kernel's. -/
theorem eq_0 : Cert.ReferenceIdeal.Value.res m' c Cert.ReferenceIdeal.main_v29 = Cert.KernelIdeal.Value.res m c Cert.KernelIdeal.main_v7 := by
  funext z
  obtain ⟨b, i, h, d, rfl⟩ : ∃ (b : Fin 48) (i : Fin 197) (h : Fin 16) (d : Fin 64), z = (ix4 b i h d : Cert.KernelIdeal.S48x197x16x64.Idx) :=
    ⟨z 0, z 1, z 2, z 3, eq_ix4 z⟩
  exact (Cert.ReferenceIdeal.Value.at_29 m' c b i h d).trans (((congrArg (fun D : Data => D.rdq d i) (hE b h)).trans
    (Data.rdq_eq _ (hs b h).1 (hs b h).2 d i)).trans (Cert.KernelIdeal.Value.at_7 m c b i h d).symm)

include hs in
/-- dK: the reference's array is the kernel's. -/
theorem eq_1 : Cert.ReferenceIdeal.Value.res m' c Cert.ReferenceIdeal.main_v30 = Cert.KernelIdeal.Value.res m c Cert.KernelIdeal.main_v8 := by
  funext z
  obtain ⟨b, i, h, d, rfl⟩ : ∃ (b : Fin 48) (i : Fin 197) (h : Fin 16) (d : Fin 64), z = (ix4 b i h d : Cert.KernelIdeal.S48x197x16x64.Idx) :=
    ⟨z 0, z 1, z 2, z 3, eq_ix4 z⟩
  exact (Cert.ReferenceIdeal.Value.at_30 m' c b i h d).trans (((congrArg (fun D : Data => D.rdk d i) (hE b h)).trans
    (Data.rdk_eq _ (hs b h).1 (hs b h).2 d i)).trans (Cert.KernelIdeal.Value.at_8 m c b i h d).symm)

/-- dV: the reference's array is the kernel's, whatever the scale. -/
theorem eq_2 : Cert.ReferenceIdeal.Value.res m' c Cert.ReferenceIdeal.main_v31 = Cert.KernelIdeal.Value.res m c Cert.KernelIdeal.main_v9 := by
  funext z
  obtain ⟨b, i, h, d, rfl⟩ : ∃ (b : Fin 48) (i : Fin 197) (h : Fin 16) (d : Fin 64), z = (ix4 b i h d : Cert.KernelIdeal.S48x197x16x64.Idx) :=
    ⟨z 0, z 1, z 2, z 3, eq_ix4 z⟩
  exact (Cert.ReferenceIdeal.Value.at_31 m' c b i h d).trans ((congrArg (fun D : Data => D.dv d i) (hE b h)).trans
    (Cert.KernelIdeal.Value.at_9 m c b i h d).symm)

end Cert.Pair
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.Pair
public import Idealize.ShloMosaic.Adequacy
public import Idealize.ShloMosaic.Init

@[expose] public section

noncomputable section

namespace Cert.Proof

open Idealize.ShloMosaic Idealize.SL.Sem

theorem claim : Cert.Claim := by
  refine ⟨Cert.Kernel.Gen.facts, Cert.KernelIdeal.Gen.facts, Cert.ReferenceIdeal.Gen.facts, Cert.Pre_scale_ok.facts,
    ?_, ?_, ?_, ?_, ?_, ?_, ?_⟩
  · exact fun m g _ => Cert.Kernel.Run.frame m g
  · exact fun m g _ => Cert.KernelIdeal.Value.frame m g
  · exact fun m g _ => Cert.KernelIdeal.Value.frame m g
  · exact fun m g _ => Cert.ReferenceIdeal.Gen.frame m g
  · exact fun m g _ => Cert.ReferenceIdeal.Gen.frame m g
  · trivial
  · intro m g m' g' hpre hagree
    have hE : ∀ c b h, Cert.ReferenceIdeal.Value.E m' c b h = Cert.Pair.E m c b h := fun c b h => by
      obtain ⟨h0, h1, h2, h3, h4, h5, h6⟩ := hagree c
      unfold Cert.ReferenceIdeal.Value.E Cert.Pair.E
      rw [h0, h1, h2, h3, h4, h5, h6]
    have hs : ∀ c b h, 0 ≤ (Cert.Pair.E m c b h).s ∧ (Cert.Pair.E m c b h).s ≠ ⊤ := fun c b h =>
      Cert.Pre_scale_ok.scale _ _ _ _ _ _ _ (hpre c) b h
    refine ⟨fun c => Cert.KernelIdeal.Value.res m c Cert.KernelIdeal.main_v7, fun c => Cert.KernelIdeal.Value.res m c Cert.KernelIdeal.main_v8,
      fun c => Cert.KernelIdeal.Value.res m c Cert.KernelIdeal.main_v9, ?_, ?_⟩
    · exact (θ_run _ _ _).mono (fun r h c => ⟨(h.1 c).1, (h.1 c).2.1, (h.1 c).2.2, h.2 c⟩)
        (θ_run_and (Cert.KernelIdeal.Value.results m g) (Cert.KernelIdeal.Value.unchanged m g))
    · exact (θ_run _ _ _).mono (fun r h c => ⟨(h.1 c).1.trans (Cert.Pair.eq_0 m m' c (hE c) (hs c)),
          (h.1 c).2.1.trans (Cert.Pair.eq_1 m m' c (hE c) (hs c)), (h.1 c).2.2.trans (Cert.Pair.eq_2 m m' c (hE c)), h.2 c⟩)
        (θ_run_and (Cert.ReferenceIdeal.Value.results m' g') (Cert.ReferenceIdeal.Gen.unchanged m' g'))

end Cert.Proof

end
